-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S1x512 : Shape := ⟨2, ![1, 512]⟩
abbrev S_ : Shape := ⟨0, ![]⟩
abbrev S9 : Shape := ⟨1, ![9]⟩
abbrev S1 : Shape := ⟨1, ![1]⟩
abbrev S128x512 : Shape := ⟨2, ![128, 512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x1 : Shape := ⟨2, ![128, 1]⟩
abbrev S128x1024 : Shape := ⟨2, ![128, 1024]⟩

abbrev nBuf : Space → Nat
  | .hbm => 5
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x512, .f32⟩
  | .local _ .vmem, ⟨0, _⟩ => ⟨S512, .i32⟩
  | .local _ .vmem, ⟨1, _⟩ => ⟨S2x512x1024, .f32⟩
  | .local _ .vmem, ⟨2, _⟩ => ⟨S2x1024x512, .f32⟩
  | .local _ .vmem, ⟨3, _⟩ => ⟨S512x512, .f32⟩
  | .local _ .vmem, ⟨4, _⟩ => ⟨S512x512, .f32⟩
  | .local _ .vmem, ⟨5, _⟩ => ⟨S1x512, .bf16⟩
  | .local _ .vmem, ⟨6, _⟩ => ⟨S512x512, .bf16⟩
  | .local _ .vmem, ⟨7, _⟩ => ⟨S512x512, .bf16⟩
  | .local _ .vmem, ⟨8, _⟩ => ⟨S1x512, .bf16⟩
  | .local _ .vmem, ⟨9, _⟩ => ⟨S512x512, .bf16⟩
  | .local _ .vmem, ⟨10, _⟩ => ⟨S512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v29 : BitVec 32 := Scalar.muli v2 c4_i32_17
  let v30 : BitVec 32 := Scalar.addi c0_i32_18 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v33 : BitVec 32 := Scalar.muli v9 c1_i32_20
  let v34 : BitVec 32 := Scalar.addi v32 v33
  v34.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v41 : BitVec 32 := Scalar.muli v5 c2_i32_25
  let v42 : BitVec 32 := Scalar.addi v40 v41
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_26 : BitVec 32 := 1#32
  let v43 : BitVec 32 := Scalar.muli v9 c1_i32_26
  let v44 : BitVec 32 := Scalar.addi v42 v43
  v44.toNat
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v51 : BitVec 32 := Scalar.muli v2 c4_i32_33
  let v52 : BitVec 32 := Scalar.addi c0_i32_34 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v53 : BitVec 32 := Scalar.muli v5 c2_i32_35
  let v54 : BitVec 32 := Scalar.addi v52 v53
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v55 : BitVec 32 := Scalar.muli v9 c1_i32_36
  let v56 : BitVec 32 := Scalar.addi v54 v55
  v56.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v63 : BitVec 32 := Scalar.muli v2 c4_i32_41
  let v64 : BitVec 32 := Scalar.addi c0_i32_42 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v65 : BitVec 32 := Scalar.muli v5 c2_i32_43
  let v66 : BitVec 32 := Scalar.addi v64 v65
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v67 : BitVec 32 := Scalar.muli v9 c1_i32_44
  let v68 : BitVec 32 := Scalar.addi v66 v67
  v68.toNat
def k0_dev6 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v75 : BitVec 32 := Scalar.muli v2 c4_i32_50
  let v76 : BitVec 32 := Scalar.addi c0_i32_51 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v77 : BitVec 32 := Scalar.muli v5 c2_i32_52
  let v78 : BitVec 32 := Scalar.addi v76 v77
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v79 : BitVec 32 := Scalar.muli v9 c1_i32_53
  let v80 : BitVec 32 := Scalar.addi v78 v79
  v80.toNat
def k0_dev7 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v198 : BitVec 32 := Scalar.muli v2 c4_i32_127
  let v199 : BitVec 32 := Scalar.addi c0_i32_128 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v200 : BitVec 32 := Scalar.muli v5 c2_i32_129
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v202 : BitVec 32 := Scalar.muli v9 c1_i32_130
  let v203 : BitVec 32 := Scalar.addi v201 v202
  v203.toNat
def k0_dev8 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v263 : BitVec 32 := Scalar.muli v2 c4_i32_170
  let v264 : BitVec 32 := Scalar.addi c0_i32_171 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v265 : BitVec 32 := Scalar.muli v5 c2_i32_172
  let v266 : BitVec 32 := Scalar.addi v264 v265
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_173 : BitVec 32 := 1#32
  let v267 : BitVec 32 := Scalar.muli v9 c1_i32_173
  let v268 : BitVec 32 := Scalar.addi v266 v267
  v268.toNat
def k0_dev9 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v328 : BitVec 32 := Scalar.muli v2 c4_i32_213
  let v329 : BitVec 32 := Scalar.addi c0_i32_214 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v330 : BitVec 32 := Scalar.muli v5 c2_i32_215
  let v331 : BitVec 32 := Scalar.addi v329 v330
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_216 : BitVec 32 := 1#32
  let v332 : BitVec 32 := Scalar.muli v9 c1_i32_216
  let v333 : BitVec 32 := Scalar.addi v331 v332
  v333.toNat
def k0_dev10 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v393 : BitVec 32 := Scalar.muli v2 c4_i32_256
  let v394 : BitVec 32 := Scalar.addi c0_i32_257 v393
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v395 : BitVec 32 := Scalar.muli v5 c2_i32_258
  let v396 : BitVec 32 := Scalar.addi v394 v395
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_259 : BitVec 32 := 1#32
  let v397 : BitVec 32 := Scalar.muli v9 c1_i32_259
  let v398 : BitVec 32 := Scalar.addi v396 v397
  v398.toNat
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1x512x1024, .f32⟩
  | .hbm, ⟨10, _⟩ => ⟨S512x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1, .i1⟩
  | .hbm, ⟨16, _⟩ => ⟨S1x1024x512, .f32⟩
  | .hbm, ⟨17, _⟩ => ⟨S1024x512, .f32⟩
  | .hbm, ⟨18, _⟩ => ⟨S1024x512, .f32⟩
  | .hbm, ⟨19, _⟩ => ⟨S1024x512, .i1⟩
  | .hbm, ⟨20, _⟩ => ⟨S1024x512, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1x512x1024, .f32⟩
  | .hbm, ⟨25, _⟩ => ⟨S512x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1, .i1⟩
  | .hbm, ⟨31, _⟩ => ⟨S1x1024x512, .f32⟩
  | .hbm, ⟨32, _⟩ => ⟨S1024x512, .f32⟩
  | .hbm, ⟨33, _⟩ => ⟨S1024x512, .f32⟩
  | .hbm, ⟨34, _⟩ => ⟨S1024x512, .i1⟩
  | .hbm, ⟨35, _⟩ => ⟨S1024x512, .f32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1x512x1024, .f32⟩
  | .hbm, ⟨40, _⟩ => ⟨S512x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1, .i1⟩
  | .hbm, ⟨46, _⟩ => ⟨S1x1024x512, .f32⟩
  | .hbm, ⟨47, _⟩ => ⟨S1024x512, .f32⟩
  | .hbm, ⟨48, _⟩ => ⟨S1024x512, .f32⟩
  | .hbm, ⟨49, _⟩ => ⟨S1024x512, .i1⟩
  | .hbm, ⟨50, _⟩ => ⟨S1024x512, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S1x512x1024, .f32⟩
  | .hbm, ⟨55, _⟩ => ⟨S512x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S1024x1, .i1⟩
  | .hbm, ⟨61, _⟩ => ⟨S1x1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Moe.Owned.lean ====
/-
Steps of a program over memrefs owned at known contents: loading, storing, copying and sending, each stated over
`owns` so that a body's proof never names a buffer's full contents. Generic in the signature and the schedule.
-/
module

public import Idealize.ShloMosaic.Lib.Rounds
public import Idealize.ShloMosaic.Lib.Memref
public import Idealize.ShloMosaic.Lib.MemrefSat

@[expose] public section

noncomputable section

namespace Cert.Owned

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

/-- The rectangle at offset zero with the shape's own sizes places every index at itself. -/
theorem emb_full {s : Shape} {off : Fin s.rank → Nat} (h : off = fun _ => 0) (inb : ∀ a, off a + s.size a ≤ s.size a)
    (x : (Rect.unit (s := s) off s.size inb).shape.Idx) : (Rect.unit (s := s) off s.size inb).emb x = x := by
  subst h
  funext a
  apply Fin.ext
  rw [Rect.emb_apply]
  simp [Rect.unit]

section Steps

variable {defs : Defs nD τ sig Val Λ} (𝒱 : Variants) (c : Thread nD τ) (bd : Option 𝒱.V) {Γ : PendingWaitsCtx sig Ix}
variable {α : Type} {Q : α → sProp (MT nD τ sig Ix Val Name U Lvl)} {Es : Set Name}
variable {s : Shape} {e : EltTy}

/-- Loading a rectangle of a memref owned at `X` yields `X` there, and leaves the memref owned. -/
theorem wp_load_own {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e}
    (Y : r.shape.Idx → Val e) (hY : ∀ x, X (r.emb x) = Y x) :
    (owns c m q X : sProp 𝕄)
      ⊢ iprop((owns c m q X -∗ wp frame (wpE' defs 𝒱 c bd Γ) Es (k Y) Q)
        -∗ wp frame (wpE' defs 𝒱 c bd Γ) Es (.op (.load m r hl) k) Q) := by
  unfold owns
  iintro ⟨%f, %hf, H⟩ Hk
  iapply (wp_load 𝒱 c bd Es (m := m) (r := r) (hl := hl) (k := k) (q := q) (f := f) (S := m.view.set) (m.view.setOn_subset_set _)) $$ H
  iintro H
  rw [show m.view.readAt Val r f = Y from funext fun x => by
    rw [View.readAt_apply, hf]; exact hY x]
  iapply Hk
  iexists f
  isplitr; · ipureintro; exact hf
  iexact H

/-- Loading exactly the rectangle a slice was taken at yields what the slice is owned at. -/
theorem wp_load_part {cs : CoreSpace} {m : Memref sig c.2.kind cs s e} {r : Rect s} (hr : ∀ a, r.stride a = 1) {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) Es (k X) Q)
        -∗ wp frame (wpE' defs 𝒱 c bd Γ) Es (.op (.load m r hl) k) Q) := by
  unfold owns
  iintro ⟨%f, %hf, H⟩ Hk
  iapply (wp_load_rect 𝒱 c bd Es (m := m) (r := r) (hl := hl) (k := k) (q := q) (f := f) (S := (m.slice r hr).view.set) (Finset.Subset.refl _)) $$ H
  iintro H
  rw [show (m.access r).read Val f = X from hf]
  iapply Hk
  iexists f
  isplitr; · ipureintro; exact hf
  iexact H

/-- Storing `w` over exactly the rectangle a slice was taken at leaves the slice owned at `w`. -/
theorem wp_store_part {cs : CoreSpace} {m : Memref sig c.2.kind cs s e} {r : Rect s} (hr : ∀ a, r.stride a = 1) {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (X : r.shape.Idx → Val e) :
    (owns c (m.slice r hr) fullShare X : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  unfold owns
  iintro ⟨%f, %hf, H⟩ Hk
  iapply (wp_store 𝒱 c bd Es (m := m) (r := r) (w := w) (Mk := Finset.univ) (hx := hx) (hm := hm) (k := k) (f := f)
    (S := (m.slice r hr).view.set) (Finset.Subset.refl _)) $$ H
  iintro H
  iapply Hk
  iexists (m.access r).write Val f w Finset.univ
  isplitr; · ipureintro; exact View.read_write_univ _ _
  iexact H

/-- Storing `w` over a rectangle that is the whole memref leaves the memref owned at `w`'s values. -/
theorem wp_store_own {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (X Y : s.Idx → Val e)
    (hY : ∀ y, ∃ x, r.emb x = y ∧ Y y = w x) :
    (owns c m fullShare X : sProp 𝕄)
      ⊢ iprop((owns c m fullShare Y -∗ wp frame (wpE' defs 𝒱 c bd Γ) Es (k ⟨⟩) Q)
        -∗ wp frame (wpE' defs 𝒱 c bd Γ) Es (.op (.store m r w Finset.univ hx hm) k) Q) := by
  unfold owns
  iintro ⟨%f, %hf, H⟩ Hk
  iapply (wp_store 𝒱 c bd Es (m := m) (r := r) (w := w) (Mk := Finset.univ) (hx := hx) (hm := hm) (k := k) (f := f)
    (S := m.view.set) (m.view.set_slice_subset r)) $$ H
  iintro H
  iapply Hk
  iexists (m.access r).write Val f w Finset.univ
  isplitr
  · ipureintro
    funext y
    obtain ⟨x, rfl, hx'⟩ := hY y
    rw [hx']
    exact View.read_slice_write_emb r f w (Finset.mem_univ x)
  iexact H

end Steps

section Transfers

variable {D : Type} [DecidableEq D] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}
variable {sp sp' : Space} {s : Shape} {e : EltTy}

/-- A local copy paying a duty: the destination owned at anything, the source at `X`; the payload is made from both owned at `X`. -/
theorem wp_copy_own {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} (X Y : s.Idx → Val e)
    {r : ℕ} {d : D} {κ : Name} (hd : d ∈ Rd.duties (c, sem) r) (ι : Ix) (N : ℕ)
    (hN : dst.view.amount sem = N) (hk : Rd.amount (c, sem) r d = N)
    (hpay : iprop(owns c dst fullShare X ∗ owns c src q X) ⊢ Rd.payload (c, sem) r d) {Es : Set Name} :
    iprop(cellInv E Rd κ (c, sem) ∗ owns c src q X ∗ owns c dst fullShare Y
        ∗ dutyTok E (c, sem) r d ∗ reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  have ho : ∀ {sp : Space} (mm : Memref sig c.2.kind sp s e) (q' : PosShare TreeShare) (Z : s.Idx → Val e),
      (owns c mm q' Z : sProp 𝕄) ⊢ iprop(∃ f, ⌜mm.view.read Val f = Z⌝ ∗ (mm.view.loc c ↦[mm.view.set]{q'} f)) := fun _ _ _ => .rfl
  iintro ⟨HI, Hs, Hd, Ht, Hr⟩
  ihave Hs := (ho src q X) $$ Hs
  ihave Hd := (ho dst fullShare Y) $$ Hd
  icases Hs with ⟨%fs, %hfs, Hs⟩
  icases Hd with ⟨%fd, %hfd, Hd⟩
  iapply (wp_copy_pointsTo 𝒱 E Rd c bd (κ := κ) (r := r) (d := d) (fs := fs) (fd := fd) hd ι N hN hk (by
    refine BI.Entails.trans ?_ hpay
    refine sep_mono ?_ ?_
    · refine (owns_intro c dst fullShare _).trans ?_
      rw [View.read_write_univ, hfs]
    · refine (owns_intro c src q fs).trans ?_
      rw [hfs]))
  isplitl [HI]; · iexact HI
  isplitl [Hs]; · iexact Hs
  isplitl [Hd]; · iexact Hd
  isplitl [Ht] <;> iassumption

/-- A send paying the issuer's and the target's duties: the source owned at `X`, the target's destination at anything; the
    two payloads are made from the source share and from the destination owned at `X`. -/
theorem wp_send_own {c' : Thread nD τ} {src : Memref sig c.2.kind sp s e} {dst : Memref sig c'.2.kind sp' s e} {hsc : dst.view.ref.isScScratch = false}
    {sS sem : SemLoc sig} {hsrc : src.view.WordExact} {hdst : dst.view.WordExact} {hsem : DmaTarget.Typed sp sem (.remote c' dst sS hsc)}
    {k : PUnit → Prog (TpuEff nD τ sig Val Λ c.2) α} {q : PosShare TreeShare} (X Y : s.Idx → Val e)
    {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : owns c' dst fullShare X ⊢ Rd.payload (c', sem) r₂ d₂) {Es : Set Name} (hr : τ.routes c c' = true := by routes) :
    iprop(cellInv E Rd κ₁ (c, sS) ∗ cellInv E Rd κ₂ (c', sem)
        ∗ owns c src q X ∗ owns c' dst fullShare Y ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  have ho : ∀ {sp : Space} (t : Thread nD τ) (mm : Memref sig t.2.kind sp s e) (q' : PosShare TreeShare) (Z : s.Idx → Val e),
      (owns t mm q' Z : sProp 𝕄) ⊢ iprop(∃ f, ⌜mm.view.read Val f = Z⌝ ∗ (mm.view.loc t ↦[mm.view.set]{q'} f)) := fun _ _ _ _ => .rfl
  iintro ⟨HI, HI', Hs, Hd, HO, Ht, Hr, Ht', Hr'⟩
  ihave Hs := (ho c src q X) $$ Hs
  ihave Hd := (ho c' dst fullShare Y) $$ Hd
  icases Hs with ⟨%fs, %hfs, Hs⟩
  icases Hd with ⟨%fd, %hfd, Hd⟩
  iapply (wp_send_pointsTo 𝒱 E Rd c bd (κ₁ := κ₁) (κ₂ := κ₂) (r₁ := r₁) (r₂ := r₂) (d₁ := d₁) (d₂ := d₂) (fs := fs) (fd := fd)
    hd₁ hd₂ ι ι' N hN hk₁ hk₂ O hO (W := W)
    ((owns_intro c src q fs).trans (by rw [hfs]; exact hpay₁))
    ((owns_intro c' dst fullShare _).trans (by rw [View.read_write_univ, hfs]; exact hpay₂)) hr)
  isplitl [HI]; · iexact HI
  isplitl [HI']; · iexact HI'
  isplitl [Hs]; · iexact Hs
  isplitl [Hd]; · iexact Hd
  isplitl [HO]; · iexact HO
  isplitl [Ht]; · iexact Ht
  isplitl [Hr]; · iexact Hr
  isplitl [Ht'] <;> iassumption

end Transfers

end Cert.Owned

end
-- ==== Proof.Moe.KernelIdeal.Cells.lean ====
/-
The expert exchange of one launch: its devices and partners, its buffers and chunks, its semaphores, the values each
buffer is to hold, and the schedule of who pays which semaphore with what.
-/
module

public import proofs.«01_k».proof.Proof.Moe.Owned
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the exchange's own semaphores. -/
abbrev UX : Type := URounds (GSem nD τ sig) Unit
/-- The pipeline's resources and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: the given memory, every counter zero. -/
def s₀ : MemSt nD τ sig (Elt F) := ⟨m, fun _ => 0, ρ⟩

/-! ## Partners -/

set_option backward.proofsInPublic true in
/-- The device across the mesh's last axis. -/
def peer (c : Dev nD) : Dev nD := ⟨(4 * (c.val / 4) + 2 * ((c.val / 2) % 2) + 1) - c.val % 2, by have := c.isLt; simp only [nD] at this ⊢; omega⟩

theorem peer_peer (c : Dev nD) : peer (peer c) = c := by revert c; decide

def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)

/-! ## Buffers and chunks -/

abbrev xM : Memref sig .tc .hbm S512x512 .f32 := Memref.whole main_arg0
abbrev aM : Memref sig .tc .vmem S512 .i32 := Memref.whole cc0_stg0_0
abbrev w1M : Memref sig .tc .vmem S2x512x1024 .f32 := Memref.whole cc0_stg1_0
abbrev w2M : Memref sig .tc .vmem S2x1024x512 .f32 := Memref.whole cc0_stg2_0
abbrev oM : Memref sig .tc .vmem S512x512 .f32 := Memref.whole cc0_stg3_0
abbrev xvM : Memref sig .tc .vmem S512x512 .f32 := Memref.whole cc0_scratch0
abbrev asM : Memref sig .tc .vmem S1x512 .bf16 := Memref.whole cc0_scratch1
abbrev xsM : Memref sig .tc .vmem S512x512 .bf16 := Memref.whole cc0_scratch2
abbrev xbM : Memref sig .tc .vmem S512x512 .bf16 := Memref.whole cc0_scratch3
abbrev abM : Memref sig .tc .vmem S1x512 .bf16 := Memref.whole cc0_scratch4
abbrev sbM : Memref sig .tc .vmem S512x512 .bf16 := Memref.whole cc0_scratch5
abbrev rbM : Memref sig .tc .vmem S512x512 .bf16 := Memref.whole cc0_scratch6

/-- Where chunk `k` of 128 rows begins. -/
abbrev off : Fin 4 → Fin 2 → Nat := fun | 0 => ![0, 0] | 1 => ![128, 0] | 2 => ![256, 0] | 3 => ![384, 0]
theorem off_inb : ∀ (k : Fin 4) (a : Fin 2), off k a + S128x512.size a ≤ S512x512.size a := by decide
/-- The rows of chunk `k`. -/
abbrev rk (k : Fin 4) : Rect S512x512 := Rect.unit (s := S512x512) (off k) S128x512.size (off_inb k)
/-- Chunk `k` of a buffer of 512 rows. -/
abbrev chM {sp : Space} {e : EltTy} (b : Memref sig .tc sp S512x512 e) (k : Fin 4) : Memref sig .tc sp S128x512 e := b.slice (rk k) (fun _ => rfl)

theorem rk_disjoint : ∀ k k' : Fin 4, k ≠ k' → Disjoint (rk k).set (rk k').set := by
  intro k k' h
  refine Finset.disjoint_left.mpr fun i hi hi' => h ?_
  rw [Rect.mem_set_unit] at hi hi'
  have h1 := hi 0; have h2 := hi' 0
  fin_cases k <;> fin_cases k' <;> first | rfl | (exfalso; simp [off] at h1 h2; omega)

theorem rk_cover : (Finset.univ : Finset (Fin 4)).biUnion (fun k => (rk k).set) = Finset.univ := by
  ext i
  simp only [Finset.mem_biUnion, Finset.mem_univ, true_and, iff_true]
  have h0 : (i 0).val < 512 := (i 0).isLt
  have h1 : (i 1).val < 512 := (i 1).isLt
  have key : ∀ k : Fin 4, (off k 0 ≤ (i 0).val ∧ (i 0).val < off k 0 + 128) → off k 1 = 0 → i ∈ (rk k).set := by
    intro k hk hk1
    rw [Rect.mem_set_unit]
    intro a
    fin_cases a
    · exact hk
    · exact ⟨by show off k 1 ≤ (i 1).val; omega, by show (i 1).val < off k 1 + 512; omega⟩
  by_cases a : (i 0).val < 128
  · exact ⟨0, key 0 ⟨Nat.zero_le _, by show _ < 0 + 128; omega⟩ rfl⟩
  by_cases b : (i 0).val < 256
  · exact ⟨1, key 1 ⟨by show 128 ≤ _; omega, by show _ < 128 + 128; omega⟩ rfl⟩
  by_cases d : (i 0).val < 384
  · exact ⟨2, key 2 ⟨by show 256 ≤ _; omega, by show _ < 256 + 128; omega⟩ rfl⟩
  · exact ⟨3, key 3 ⟨by show 384 ≤ _; omega, by show _ < 384 + 128; omega⟩ rfl⟩

/-- Four chunks of 128 rows put together. -/
def assemble {α : Type} (v : Fin 4 → S128x512.Idx → α) : S512x512.Idx → α := fun i =>
  v ⟨(i 0).val / 128, by have h : (i 0).val < 512 := (i 0).isLt; omega⟩
    (fun a => match a with
      | ⟨0, _⟩ => ⟨(i 0).val % 128, Nat.mod_lt _ (by decide)⟩
      | ⟨1, _⟩ => ⟨(i 1).val, (i 1).isLt⟩)

theorem assemble_emb {α : Type} (v : Fin 4 → S128x512.Idx → α) (k : Fin 4) (j : S128x512.Idx) : assemble v ((rk k).emb j) = v k j := by
  have hj : (j 0).val < 128 := (j 0).isLt
  have e0 : (((rk k).emb j) 0 : Nat) = 128 * k.val + (j 0).val := by
    rw [Rect.emb_apply]
    fin_cases k <;> simp [Rect.unit, off]
  have e1 : (((rk k).emb j) 1 : Nat) = (j 1).val := by
    rw [Rect.emb_apply]
    fin_cases k <;> simp [Rect.unit, off]
  unfold assemble
  have hk : (⟨(((rk k).emb j) 0 : Nat) / 128, by have h : (((rk k).emb j) 0 : Nat) < 512 := (((rk k).emb j) 0).isLt; omega⟩ : Fin 4) = k :=
    Fin.ext (by show _ / 128 = k.val; omega)
  rw [hk]
  congr 1
  funext a
  match a with
  | ⟨0, _⟩ => exact Fin.ext (by show _ % 128 = (j 0).val; omega)
  | ⟨1, _⟩ => exact Fin.ext e1

/-! ## Semaphores -/

abbrev barS : Sem sig := (SemArray.scalar (sig.barrier 0 rfl) : Sems sig S_).sem
abbrev dS (i : Fin 19) : DmaSem sig := ⟨4 + i.val, by have := i.isLt; show 4 + i.val < 23; omega⟩
/-- The load's semaphore is the first; the sends' come next, then the receives'. -/
abbrev sI (j : Fin 9) : Fin 19 := ⟨1 + j.val, by omega⟩
abbrev rI (j : Fin 9) : Fin 19 := ⟨10 + j.val, by omega⟩

theorem sliceL : cc0_scratch7.sem = dS 0 := rfl
theorem sliceS0 : ((cc0_scratch8.slice (Rect.unit (s := S9) ![0] ![1] inb_S9_S1_0)).squeeze S_ squeezes_S1_S_).sem = dS (sI 0) := rfl
theorem sliceS1 : ((cc0_scratch8.slice (Rect.unit (s := S9) ![1] ![1] inb_S9_S1_1)).squeeze S_ squeezes_S1_S_).sem = dS (sI 1) := rfl
theorem sliceS2 : ((cc0_scratch8.slice (Rect.unit (s := S9) ![2] ![1] inb_S9_S1_2)).squeeze S_ squeezes_S1_S_).sem = dS (sI 2) := rfl
theorem sliceS3 : ((cc0_scratch8.slice (Rect.unit (s := S9) ![3] ![1] inb_S9_S1_3)).squeeze S_ squeezes_S1_S_).sem = dS (sI 3) := rfl
theorem sliceS4 : ((cc0_scratch8.slice (Rect.unit (s := S9) ![4] ![1] inb_S9_S1_4)).squeeze S_ squeezes_S1_S_).sem = dS (sI 4) := rfl
theorem sliceS5 : ((cc0_scratch8.slice (Rect.unit (s := S9) ![5] ![1] inb_S9_S1_5)).squeeze S_ squeezes_S1_S_).sem = dS (sI 5) := rfl
theorem sliceS6 : ((cc0_scratch8.slice (Rect.unit (s := S9) ![6] ![1] inb_S9_S1_6)).squeeze S_ squeezes_S1_S_).sem = dS (sI 6) := rfl
theorem sliceS7 : ((cc0_scratch8.slice (Rect.unit (s := S9) ![7] ![1] inb_S9_S1_7)).squeeze S_ squeezes_S1_S_).sem = dS (sI 7) := rfl
theorem sliceS8 : ((cc0_scratch8.slice (Rect.unit (s := S9) ![8] ![1] inb_S9_S1_8)).squeeze S_ squeezes_S1_S_).sem = dS (sI 8) := rfl
theorem sliceR0 : ((cc0_scratch9.slice (Rect.unit (s := S9) ![0] ![1] inb_S9_S1_0)).squeeze S_ squeezes_S1_S_).sem = dS (rI 0) := rfl
theorem sliceR1 : ((cc0_scratch9.slice (Rect.unit (s := S9) ![1] ![1] inb_S9_S1_1)).squeeze S_ squeezes_S1_S_).sem = dS (rI 1) := rfl
theorem sliceR2 : ((cc0_scratch9.slice (Rect.unit (s := S9) ![2] ![1] inb_S9_S1_2)).squeeze S_ squeezes_S1_S_).sem = dS (rI 2) := rfl
theorem sliceR3 : ((cc0_scratch9.slice (Rect.unit (s := S9) ![3] ![1] inb_S9_S1_3)).squeeze S_ squeezes_S1_S_).sem = dS (rI 3) := rfl
theorem sliceR4 : ((cc0_scratch9.slice (Rect.unit (s := S9) ![4] ![1] inb_S9_S1_4)).squeeze S_ squeezes_S1_S_).sem = dS (rI 4) := rfl
theorem sliceR5 : ((cc0_scratch9.slice (Rect.unit (s := S9) ![5] ![1] inb_S9_S1_5)).squeeze S_ squeezes_S1_S_).sem = dS (rI 5) := rfl
theorem sliceR6 : ((cc0_scratch9.slice (Rect.unit (s := S9) ![6] ![1] inb_S9_S1_6)).squeeze S_ squeezes_S1_S_).sem = dS (rI 6) := rfl
theorem sliceR7 : ((cc0_scratch9.slice (Rect.unit (s := S9) ![7] ![1] inb_S9_S1_7)).squeeze S_ squeezes_S1_S_).sem = dS (rI 7) := rfl
theorem sliceR8 : ((cc0_scratch9.slice (Rect.unit (s := S9) ![8] ![1] inb_S9_S1_8)).squeeze S_ squeezes_S1_S_).sem = dS (rI 8) := rfl

abbrev barC (c : Dev nD) : GSem nD τ sig := ((c : Thread nD τ), .reg barS)
abbrev dC (c : Dev nD) (i : Fin 19) : GSem nD τ sig := ((c : Thread nD τ), .dma (dS i))

/-- The kernel's own scoped semaphores. -/
abbrev osem : Fin 19 → SemLoc sig := fun i => .dma (dS i)

/-- What completes on each scoped semaphore: the load's bytes, an assignment row's, a chunk's. -/
abbrev crL : ℕ := (xvM : Memref sig .tc .vmem S512x512 .f32).view.dmaCredit
abbrev crA : ℕ := (abM : Memref sig .tc .vmem S1x512 .bf16).view.dmaCredit
abbrev crC : ℕ := (chM xbM 0 : Memref sig .tc .vmem S128x512 .bf16).view.dmaCredit
def amt (i : Fin 19) : ℕ := if i.val = 0 then crL else if i.val = 1 ∨ i.val = 10 then crA else crC

theorem amt_pos (i : Fin 19) : 0 < amt i := by
  unfold amt
  (repeat' split) <;> exact View.dmaCredit_pos _ (by decide)

/-! ## Values -/

section Values
variable (c : Dev nD)

/-- The blocks the device's windows stage, and its block of `x`. -/
def xin : S512x512.Idx → Elt F .f32 := (s₀ m ρ).mem ((c : Thread nD τ).loc main_arg0)
def ain : S512.Idx → Elt F .i32 := (win0_0.blk t0_0).view.read (Elt F) ((s₀ m ρ).mem ((c : Thread nD τ).loc main_arg1))
def w1in : S2x512x1024.Idx → Elt F .f32 := (win0_1.blk t0_0).view.read (Elt F) ((s₀ m ρ).mem ((c : Thread nD τ).loc main_arg2))
def w2in : S2x1024x512.Idx → Elt F .f32 := (win0_2.blk t0_0).view.read (Elt F) ((s₀ m ρ).mem ((c : Thread nD τ).loc main_arg3))

/-- The two local experts' matrices. -/
def w1a : Vec F S1x512x1024 .f32 := fun x => w1in m ρ c ((Rect.unit (s := S2x512x1024) ![0, 0, 0] S1x512x1024.size inb_S2x512x1024_S1x512x1024_0_0_0).emb x)
def w1b : Vec F S1x512x1024 .f32 := fun x => w1in m ρ c ((Rect.unit (s := S2x512x1024) ![1, 0, 0] S1x512x1024.size inb_S2x512x1024_S1x512x1024_1_0_0).emb x)
def w2a : Vec F S1x1024x512 .f32 := fun x => w2in m ρ c ((Rect.unit (s := S2x1024x512) ![0, 0, 0] S1x1024x512.size inb_S2x1024x512_S1x1024x512_0_0_0).emb x)
def w2b : Vec F S1x1024x512 .f32 := fun x => w2in m ρ c ((Rect.unit (s := S2x1024x512) ![1, 0, 0] S1x1024x512.size inb_S2x1024x512_S1x1024x512_1_0_0).emb x)

/-- The assignment row and the rows of `x` as sent. -/
def asv : Vec F S1x512 .bf16 := k0_pay1 (ain m ρ c)
def xsv : Vec F S512x512 .bf16 := k0_pay2 (xin m ρ c)
def xcv (k : Fin 4) : Vec F S128x512 .bf16 := fun x => xsv m ρ c ((rk k).emb x)

/-- The device's first expert, as the kernel computes it. -/
def e0 : BitVec 32 := Scalar.muli 2#32 (Scalar.remsi (Scalar.divsi (Dev.word c) 1#32) 2#32)

/-- The device's own contribution to its own rows. -/
def acc : FVec F S512x512 .f32 :=
  k0_pay5 (e0 c) (k0_pay4 (asv m ρ c)) (xsv m ρ c) (w1a m ρ c) (w2a m ρ c) (w1b m ρ c) (w2b m ρ c)

/-- The partner's assignment column, as received. -/
def pcol : FVec F S512x1 .f32 := k0_pay6 (k0_pay3 (F := F)) (asv m ρ (peer c))

/-- The device's contribution to each chunk of its partner's rows. -/
def sbv : Fin 4 → Vec F S128x512 .bf16
  | 0 => k0_pay10 (e0 c) (xcv m ρ (peer c) 0) (k0_pay7 (k0_pay3 (F := F)) (asv m ρ (peer c))) (k0_pay8 (F := F))
      (k0_pay9 (e0 c) (k0_pay3 (F := F)) (asv m ρ (peer c)) (xcv m ρ (peer c) 0)) (w1a m ρ c) (w2a m ρ c) (w1b m ρ c) (w2b m ρ c)
  | 1 => k0_pay15 (e0 c) (xcv m ρ (peer c) 1) (k0_pay11 (pcol m ρ c)) (k0_pay12 (F := F)) (k0_pay13 (e0 c) (pcol m ρ c) (xcv m ρ (peer c) 1) (w1a m ρ c))
      (k0_pay14 (F := F)) (w2a m ρ c) (w1b m ρ c) (w2b m ρ c)
  | 2 => k0_pay20 (e0 c) (xcv m ρ (peer c) 2) (k0_pay16 (pcol m ρ c)) (k0_pay17 (F := F)) (k0_pay18 (e0 c) (pcol m ρ c) (xcv m ρ (peer c) 2) (w1a m ρ c))
      (k0_pay19 (w2a m ρ c)) (constant S128x512 .f32 0x00000000#32) (w1b m ρ c) (w2b m ρ c)
  | 3 => k0_pay24 (xcv m ρ (peer c) 3) (k0_pay22 (e0 c) (pcol m ρ c) (xcv m ρ (peer c) 3) (w1a m ρ c) (w2a m ρ c)) (k0_pay23 (e0 c) (pcol m ρ c)) (w1b m ρ c) (w2b m ρ c)

/-- The device's result, chunk by chunk: its own contribution plus what its partner returns. -/
def outc : Fin 4 → Vec F S128x512 .f32
  | 0 => k0_pay25 (acc m ρ c) (sbv m ρ (peer c) 0)
  | 1 => k0_pay26 (acc m ρ c) (sbv m ρ (peer c) 1)
  | 2 => k0_pay27 (acc m ρ c) (sbv m ρ (peer c) 2)
  | 3 => k0_pay28 (acc m ρ c) (sbv m ρ (peer c) 3)
def outv : S512x512.Idx → Elt F .f32 := assemble (outc m ρ c)

end Values

/-! ## The schedule -/

/-- A memref owned at some contents. -/
def someOwn (c : Dev nD) {sp : Space} {s : Shape} {e : EltTy} (b : Memref sig .tc sp s e) (q : PosShare TreeShare) : sProp 𝕄 :=
  iprop(∃ X, owns (c : Thread nD τ) b q X)

omit [FloatOps F] in
instance someOwn_storable (c : Dev nD) {sp : Space} {s : Shape} {e : EltTy} (b : Memref sig .tc sp s e) (q : PosShare TreeShare) :
    BI.Storable (upEmb : UEmb _ 𝕄) (someOwn (F := F) c b q) := by unfold someOwn; infer_instance

/-- Everything a device's partner writes on it. -/
def landing (c : Dev nD) : sProp 𝕄 :=
  iprop(someOwn c abM fullShare
    ∗ (someOwn c (chM xbM 0) fullShare ∗ someOwn c (chM xbM 1) fullShare ∗ someOwn c (chM xbM 2) fullShare ∗ someOwn c (chM xbM 3) fullShare)
    ∗ (someOwn c (chM rbM 0) fullShare ∗ someOwn c (chM rbM 1) fullShare ∗ someOwn c (chM rbM 2) fullShare ∗ someOwn c (chM rbM 3) fullShare))

/-- What the load's completion hands back: the block of `x` in fast memory, and the source. -/
def loadPay (c : Dev nD) : sProp 𝕄 :=
  iprop(owns (c : Thread nD τ) xvM fullShare (xin m ρ c) ∗ owns (c : Thread nD τ) xM fullShare (xin m ρ c))

/-- What a send's completion hands back: the lent share of its source. -/
def sendPay (c : Dev nD) : Fin 9 → sProp 𝕄
  | 0 => someOwn c asM fullShare.left
  | 1 => someOwn c (chM xsM 0) fullShare.left
  | 2 => someOwn c (chM xsM 1) fullShare.left
  | 3 => someOwn c (chM xsM 2) fullShare.left
  | 4 => someOwn c (chM xsM 3) fullShare.left
  | 5 => someOwn c (chM sbM 0) fullShare
  | 6 => someOwn c (chM sbM 1) fullShare
  | 7 => someOwn c (chM sbM 2) fullShare
  | 8 => someOwn c (chM sbM 3) fullShare

/-- What a receive hands over: the landing buffer at what the partner sent. -/
def recvPay (c : Dev nD) : Fin 9 → sProp 𝕄
  | 0 => owns (c : Thread nD τ) abM fullShare (asv m ρ (peer c))
  | 1 => owns (c : Thread nD τ) (chM xbM 0) fullShare (xcv m ρ (peer c) 0)
  | 2 => owns (c : Thread nD τ) (chM xbM 1) fullShare (xcv m ρ (peer c) 1)
  | 3 => owns (c : Thread nD τ) (chM xbM 2) fullShare (xcv m ρ (peer c) 2)
  | 4 => owns (c : Thread nD τ) (chM xbM 3) fullShare (xcv m ρ (peer c) 3)
  | 5 => owns (c : Thread nD τ) (chM rbM 0) fullShare (sbv m ρ (peer c) 0)
  | 6 => owns (c : Thread nD τ) (chM rbM 1) fullShare (sbv m ρ (peer c) 1)
  | 7 => owns (c : Thread nD τ) (chM rbM 2) fullShare (sbv m ρ (peer c) 2)
  | 8 => owns (c : Thread nD τ) (chM rbM 3) fullShare (sbv m ρ (peer c) 3)

/-- What completes on a DMA semaphore by its number. -/
def dmaPay (c : Dev nD) (n : ℕ) : sProp 𝕄 :=
  if n = 4 then loadPay m ρ c
  else if h : 5 ≤ n ∧ n < 14 then sendPay c ⟨n - 5, by omega⟩
  else if h : 14 ≤ n ∧ n < 23 then recvPay m ρ c ⟨n - 14, by omega⟩
  else iprop(emp)

def semPay (c : Dev nD) : SemLoc sig → sProp 𝕄
  | .reg _ => landing (peer c)
  | .dma s => dmaPay m ρ c s.val

/-- The semaphores of the exchange: the barrier and the nineteen scoped ones. -/
def mine : SemLoc sig → Bool
  | .reg s => decide (s = barS)
  | .dma s => decide (4 ≤ s.val)

def semAmt : SemLoc sig → ℕ
  | .reg _ => 1
  | .dma s => if h : 4 ≤ s.val ∧ s.val < 23 then amt ⟨s.val - 4, by omega⟩ else 1

def Rd : Rounds.Schedule (GSem nD τ sig) Unit 𝕄 where
  duties g r := if r = 0 ∧ g.1.2 = .tc ∧ mine g.2 = true then {()} else ∅
  unitless _ := False
  amount g _ _ := semAmt g.2
  payload g _ _ := semPay m ρ g.1.1 g.2
  amount_pos g _ _ _ := by
    show 0 < semAmt g.2
    unfold semAmt
    split
    · exact Nat.one_pos
    · split
      · exact amt_pos _
      · exact Nat.one_pos

instance Rd_payload_storable (g : GSem nD τ sig) (r : ℕ) (d : Unit) :
    BI.Storable (upEmb : UEmb _ 𝕄) ((Rd (F := F) m ρ).payload g r d) := by
  show BI.Storable upEmb (semPay m ρ g.1.1 g.2)
  unfold semPay
  split
  · unfold landing; infer_instance
  · unfold dmaPay
    split
    · unfold loadPay; infer_instance
    · split
      · unfold sendPay; split <;> infer_instance
      · split
        · unfold recvPay; split <;> infer_instance
        · infer_instance

section Sched
variable (c : Dev nD)

theorem duties_bar : (Rd (F := F) m ρ).duties (barC c) 0 = {()} := by
  show (if 0 = 0 ∧ (barC c).1.2 = .tc ∧ mine (barC c).2 = true then ({()} : Finset Unit) else ∅) = {()}
  exact if_pos ⟨rfl, rfl, by show decide (barS = barS) = true; exact decide_eq_true rfl⟩
theorem duties_dma (i : Fin 19) : (Rd (F := F) m ρ).duties (dC c i) 0 = {()} := if_pos ⟨rfl, rfl, decide_eq_true (by show 4 ≤ 4 + i.val; omega)⟩
theorem duties_later (g : GSem nD τ sig) : ∀ r, 1 ≤ r → (Rd (F := F) m ρ).duties g r = ∅ :=
  fun r hr => if_neg fun h => by omega

theorem amount_dma (i : Fin 19) : (Rd (F := F) m ρ).amount (dC c i) 0 () = amt i := by
  show semAmt (.dma (dS i)) = amt i
  unfold semAmt
  have hi := i.isLt
  simp only []
  rw [dif_pos ⟨by show 4 ≤ 4 + i.val; omega, by show 4 + i.val < 23; omega⟩]
  congr 1
  exact Fin.ext (by show 4 + i.val - 4 = i.val; omega)

theorem expect_bar : (Rd (F := F) m ρ).expect (barC c) 0 = 1 := by
  unfold Schedule.expect Schedule.amountOf; rw [duties_bar, Finset.sum_singleton]; rfl
theorem expect_dma (i : Fin 19) : (Rd (F := F) m ρ).expect (dC c i) 0 = amt i := by
  unfold Schedule.expect Schedule.amountOf; rw [duties_dma, Finset.sum_singleton, amount_dma]

theorem payload_bar : (Rd (F := F) m ρ).payload (barC c) 0 () = landing (peer c) := rfl
theorem payload_load : (Rd (F := F) m ρ).payload (dC c 0) 0 () = loadPay m ρ c := by
  show dmaPay m ρ c (4 + 0) = _
  unfold dmaPay; rw [if_pos rfl]
theorem payload_send (j : Fin 9) : (Rd (F := F) m ρ).payload (dC c (sI j)) 0 () = sendPay c j := by
  show dmaPay m ρ c (4 + (1 + j.val)) = _
  have hj := j.isLt
  unfold dmaPay; rw [if_neg (by omega), dif_pos ⟨by omega, by omega⟩]
  congr 1
  exact Fin.ext (by show 4 + (1 + j.val) - 5 = j.val; omega)
theorem payload_recv (j : Fin 9) : (Rd (F := F) m ρ).payload (dC c (rI j)) 0 () = recvPay m ρ c j := by
  show dmaPay m ρ c (4 + (10 + j.val)) = _
  have hj := j.isLt
  unfold dmaPay; rw [if_neg (by omega), dif_neg (by omega), dif_pos ⟨by omega, by omega⟩]
  congr 1
  exact Fin.ext (by show 4 + (10 + j.val) - 14 = j.val; omega)

theorem rest_bar : bigSep ((Rd (F := F) m ρ).duties (barC c) 0 \ ∅) (fun d => (Rd (F := F) m ρ).payload (barC c) 0 d) = landing (peer c) := by
  rw [Finset.sdiff_empty, duties_bar, bigSep_singleton]; rfl
theorem rest_dma (i : Fin 19) :
    bigSep ((Rd (F := F) m ρ).duties (dC c i) 0 \ ∅) (fun d => (Rd (F := F) m ρ).payload (dC c i) 0 d) = (Rd (F := F) m ρ).payload (dC c i) 0 () := by
  rw [Finset.sdiff_empty, duties_dma, bigSep_singleton]

end Sched

/-! ## What each device owes at launch; the levels -/

/-- The receives of the partner that device `c` has still to pay, the first to be paid listed first. -/
def debt (c : Dev nD) : List (Fin 9) → CellTallies nD τ sig Unit
  | [] => 0
  | j :: l => debt c l + tallyAt (dC (peer c) (rI j)) () (amt (rI j))

/-- All that device `c` owes at launch: the partner's nine receives, and a unit on its barrier. -/
def O₀ (c : Dev nD) : CellTallies nD τ sig Unit := debt c [0, 1, 2, 3, 4, 5, 6, 7, 8] + tallyAt (barC (peer c)) () 1

def lev : SemLoc sig → ℕ
  | .reg _ => 1
  | .dma s => if 19 ≤ s.val then 3 else if 14 ≤ s.val then 2 else 0
def L (g : GSem nD τ sig) : Finset Unit := if g.1.2 = .tc then {()} else ∅
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem debt_pos {c : Dev nD} {g : GSem nD τ sig} {u : Unit} : ∀ l : List (Fin 9), 0 < debt c l g u → ∃ j ∈ l, g = dC (peer c) (rI j)
  | [], h => absurd h (Nat.lt_irrefl 0)
  | j :: l, h => by
    unfold debt at h
    rw [Pi.add_apply, Finsupp.add_apply, tallyAt_apply] at h
    by_cases hg : g = dC (peer c) (rI j)
    · exact ⟨j, List.mem_cons_self, hg⟩
    · rw [if_neg (fun h' => hg h'.1), Nat.add_zero] at h
      obtain ⟨j', hj', e⟩ := debt_pos l h
      exact ⟨j', List.mem_cons_of_mem _ hj', e⟩

theorem O₀_pos {c : Dev nD} {g : GSem nD τ sig} {u : Unit} (h : 0 < O₀ c g u) : (∃ j, g = dC (peer c) (rI j)) ∨ g = barC (peer c) := by
  unfold O₀ at h
  rw [Pi.add_apply, Finsupp.add_apply, tallyAt_apply] at h
  by_cases hg : g = barC (peer c)
  · exact Or.inr hg
  · rw [if_neg (fun h' => hg h'.1), Nat.add_zero] at h
    obtain ⟨j, -, e⟩ := debt_pos _ h
    exact Or.inl ⟨j, e⟩

/-- A device may wait on a semaphore that lies below all the receives it still owes. -/
theorem mayWait_debt (c : Dev nD) (sm : SemLoc sig) (l : List (Fin 9)) (h : ∀ j ∈ l, lev sm < lev (.dma (dS (rI j)))) :
    (levAts L lv : sProp 𝕄) ⊢ MayWait (c : Thread nD τ) sm () (debt c l) :=
  MayOwe.of_cut (L := L) (lev := lv) (lev sm) (fun p hp => by rw [Finset.mem_singleton.mp hp, L_tc]; exact Finset.mem_singleton_self _)
    (fun g u hg => by obtain ⟨j, -, rfl⟩ := debt_pos _ hg; exact Finset.mem_singleton_self _)
    (fun p hp => by rw [Finset.mem_singleton.mp hp]; exact le_refl _)
    (fun g u hg => by obtain ⟨j, hj, rfl⟩ := debt_pos _ hg; exact h j hj)

/-- A staging semaphore may be waited on at launch and at the end. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl <;> exact Finset.mem_singleton_self _)
      (fun p hp => by
        rw [Finset.mem_singleton.mp hp]
        show lev (.dma q) ≤ 0
        unfold lev; simp only []; rw [if_neg (by omega), if_neg (by omega)])
      (fun g u hg => by
        rcases O₀_pos hg with ⟨j, rfl⟩ | rfl
        · show 0 < lev (.dma (dS (rI j)))
          exact (by decide : ∀ j : Fin 9, 0 < lev (.dma (dS (rI j)) : SemLoc sig)) j
        · exact Nat.one_pos)
  · rw [MayWait_zero]; iintro -; iempintro

end Cert.Moe.KernelIdeal

end
-- ==== Proof.Moe.Value.Ffn.lean ====
/-
One expert's feed-forward network on one row, over the extended reals, and what the printed blocks of the kernel compute
in its terms: a row gated by an indicator, the assignment column, a block of rows through both local experts.
-/
module

public import proofs.«01_k».proof.Proof.Moe.KernelIdeal.Cells
public import Idealize.ShloMosaic.Lib.Pointwise

@[expose] public section

noncomputable section

namespace Cert.Moe.Value

open Cert.KernelIdeal Cert.KernelIdeal.Gen
open Idealize.ShloMosaic
open scoped BigOperators

/-- Column `j` of a row through one expert: the row times `w1`, negative entries made zero, times `w2`. -/
def ffn (x : Fin 512 → EReal) (w1 : Fin 512 → Fin 1024 → EReal) (w2 : Fin 1024 → Fin 512 → EReal) (j : Fin 512) : EReal :=
  ∑ h : Fin 1024, max (∑ k : Fin 512, x k * w1 k h) 0 * w2 h j

/-- The zero row gives zero, whatever the matrices hold. -/
theorem ffn_zero (w1 : Fin 512 → Fin 1024 → EReal) (w2 : Fin 1024 → Fin 512 → EReal) (j : Fin 512) :
    ffn (fun _ => 0) w1 w2 j = 0 := by
  simp [ffn]

/-- A comparison's bit as a number: one when it holds, zero when not. -/
theorem bit_val (p : Prop) [Decidable p] :
    (FloatOps.sitofp FTy.f32 (BitVec.setWidth 32 (BitVec.ofBool (decide p))) : Ideal FTy.f32) = if p then 1 else 0 := by
  show ((((BitVec.setWidth 32 (BitVec.ofBool (decide p))).toInt : ℝ)) : EReal) = _
  by_cases h : p
  · rw [decide_eq_true h, if_pos h, show (BitVec.setWidth 32 (BitVec.ofBool true)).toInt = 1 from by decide]
    norm_num
  · rw [decide_eq_false h, if_neg h, show (BitVec.setWidth 32 (BitVec.ofBool false)).toInt = 0 from by decide]
    norm_num

/-- A row scaled by a comparison's bit goes through the expert when the comparison holds, and gives zero when not. -/
theorem ffn_gated (p : Prop) [Decidable p] (x : Fin 512 → EReal) (w1 : Fin 512 → Fin 1024 → EReal)
    (w2 : Fin 1024 → Fin 512 → EReal) (j : Fin 512) :
    ffn (fun k => x k * (FloatOps.sitofp FTy.f32 (BitVec.setWidth 32 (BitVec.ofBool (decide p))) : Ideal FTy.f32)) w1 w2 j
      = if p then ffn x w1 w2 j else 0 := by
  rw [bit_val]
  by_cases h : p
  · simp only [if_pos h, mul_one]
  · simp only [if_neg h, mul_zero, ffn_zero]

/-- Two words read as numbers are equal exactly when the words are. -/
theorem word_val_eq (a b : BitVec 32) : (((a.toInt : ℝ) : EReal) = ((b.toInt : ℝ) : EReal)) ↔ a = b := by
  rw [EReal.coe_eq_coe_iff, Int.cast_inj, BitVec.toInt_inj]

/-- A row through the two experts of one device: through each where the row's word names it, and summed. -/
def two (e a : BitVec 32) (x : Fin 512 → EReal) (u1 : Fin 2 → Fin 512 → Fin 1024 → EReal)
    (u2 : Fin 2 → Fin 1024 → Fin 512 → EReal) (j : Fin 512) : EReal :=
  (if a = Scalar.addi e 0#32 then ffn x (u1 0) (u2 0) j else 0) + (if a = Scalar.addi e 1#32 then ffn x (u1 1) (u2 1) j else 0)

/-- The product with the identity matrix reads the assignment row as a column. -/
theorem col_apply (a : Vec Ideal S512 .i32) (r : Fin 512) :
    (k0_pay4 (k0_pay1 (F := Ideal) a) : FVec Ideal S512x1 .f32) (ix2 r 0) = (((a (ix1 r) : BitVec 32).toInt : ℝ) : EReal) := by
  have hb : ∀ k : Fin 512, (FloatOps.sitofp FTy.f32 (BitVec.setWidth 32 (IntOp.cmpi CmpIPredicate.eq (BitVec.ofNat 32 r.val) (BitVec.ofNat 32 k.val))) : Ideal FTy.f32)
      = if k = r then 1 else 0 := fun k => by
    refine Eq.trans ?_ (bit_val (k = r))
    refine congrArg (fun b => (FloatOps.sitofp FTy.f32 (BitVec.setWidth 32 b) : Ideal FTy.f32)) ?_
    show BitVec.ofBool (decide (BitVec.ofNat 32 r.val = BitVec.ofNat 32 k.val)) = _
    congr 1
    refine decide_eq_decide.mpr ⟨fun h => Fin.ext ?_, fun h => by rw [h]⟩
    have h' := congrArg BitVec.toNat h
    rw [BitVec.toNat_ofNat, BitVec.toNat_ofNat] at h'
    have := r.isLt
    have := k.isLt
    omega
  pointwise [k0_pay4, k0_pay1, k0_pay3]
  refine (Finset.sum_congr rfl fun k _ => congrArg (· * _) (hb k)).trans ?_
  simp only [ite_mul, one_mul, zero_mul, Finset.sum_ite_eq', Finset.mem_univ, if_true]
  rfl

/-- A device's own rows through both of its experts, read at a row and a column. -/
theorem own_apply (e : BitVec 32) (a : Fin 512 → BitVec 32) (col : FVec Ideal S512x1 .f32)
    (hcol : ∀ r, col (ix2 r 0) = (((a r).toInt : ℝ) : EReal)) (x : Vec Ideal S512x512 .bf16)
    (a1 : Vec Ideal S1x512x1024 .f32) (a2 : Vec Ideal S1x1024x512 .f32)
    (b1 : Vec Ideal S1x512x1024 .f32) (b2 : Vec Ideal S1x1024x512 .f32) (r : Fin 512) (j : Fin 512) :
    (k0_pay5 e col x a1 a2 b1 b2 : FVec Ideal S512x512 .f32) (ix2 r j)
      = two e (a r) (fun k => x (ix2 r k)) (fun l k h => (![a1, b1] : Fin 2 → Vec Ideal S1x512x1024 .f32) l (ix3 0 k h))
          (fun l h j => (![a2, b2] : Fin 2 → Vec Ideal S1x1024x512 .f32) l (ix3 0 h j)) j := by
  have h0 := ffn_gated (col (ix2 r 0) = (((Scalar.addi e 0#32).toInt : ℝ) : EReal)) (fun k => x (ix2 r k)) (fun k h => a1 (ix3 0 k h)) (fun h j => a2 (ix3 0 h j)) j
  have h1 := ffn_gated (col (ix2 r 0) = (((Scalar.addi e 1#32).toInt : ℝ) : EReal)) (fun k => x (ix2 r k)) (fun k h => b1 (ix3 0 k h)) (fun h j => b2 (ix3 0 h j)) j
  pointwise [k0_pay5]
  refine (congrArg₂ (· + ·) h0 h1).trans ?_
  rw [hcol]
  simp only [word_val_eq]
  rfl

/-- One chunk of rows through both experts of a device: the text of the four chunks' blocks, stated once. -/
def chunk (e : BitVec 32) (col : FVec Ideal S128x1 .f32) (x : Vec Ideal S128x512 .bf16)
    (a1 : Vec Ideal S1x512x1024 .f32) (a2 : Vec Ideal S1x1024x512 .f32)
    (b1 : Vec Ideal S1x512x1024 .f32) (b2 : Vec Ideal S1x1024x512 .f32) : Vec Ideal S128x512 .bf16 :=
  k0_pay10 e x col (k0_pay8 (F := Ideal))
    (mulf x (broadcastTo S128x512 (truncf .bf16 (sitofp .f32 (extui 32 (cmpf .oeq col (broadcast S128x1 (Scalar.sitofp .f32 (Scalar.addi e 0#32)))) natLt_1_32)) bitsLt_bf16_f32) broadcasts_S128x1_S128x512))
    a1 a2 b1 b2

/-- A chunk of rows through both experts, read at a row and a column. -/
theorem chunk_apply (e : BitVec 32) (a : Fin 128 → BitVec 32) (col : FVec Ideal S128x1 .f32)
    (hcol : ∀ r, col (ix2 r 0) = (((a r).toInt : ℝ) : EReal)) (x : Vec Ideal S128x512 .bf16)
    (a1 : Vec Ideal S1x512x1024 .f32) (a2 : Vec Ideal S1x1024x512 .f32)
    (b1 : Vec Ideal S1x512x1024 .f32) (b2 : Vec Ideal S1x1024x512 .f32) (r : Fin 128) (j : Fin 512) :
    chunk e col x a1 a2 b1 b2 (ix2 r j)
      = two e (a r) (fun k => x (ix2 r k)) (fun l k h => (![a1, b1] : Fin 2 → Vec Ideal S1x512x1024 .f32) l (ix3 0 k h))
          (fun l h j => (![a2, b2] : Fin 2 → Vec Ideal S1x1024x512 .f32) l (ix3 0 h j)) j := by
  have h0 := ffn_gated (col (ix2 r 0) = (((Scalar.addi e 0#32).toInt : ℝ) : EReal)) (fun k => x (ix2 r k)) (fun k h => a1 (ix3 0 k h)) (fun h j => a2 (ix3 0 h j)) j
  have h1 := ffn_gated (col (ix2 r 0) = (((Scalar.addi e 1#32).toInt : ℝ) : EReal)) (fun k => x (ix2 r k)) (fun k h => b1 (ix3 0 k h)) (fun h j => b2 (ix3 0 h j)) j
  pointwise [chunk, k0_pay10, k0_pay8]
  refine (congrArg₂ (· + ·) h0 h1).trans ?_
  rw [hcol]
  simp only [word_val_eq]
  rfl

end Cert.Moe.Value

end
-- ==== Proof.Moe.Value.Plain.lean ====
/-
The reference's result over the extended reals, element by element: each row through the one expert its word names, zero
where the word names none.
-/
module

public import proofs.«01_k».proof.Proof.Moe.Value.Ffn
public import proofs.«01_k».proof.Proof.Gen.ReferenceIdeal.Run
public import Idealize.ShloMosaic.Lib.Pointwise

@[expose] public section

noncomputable section

namespace Cert.Moe.Value

open Cert.ReferenceIdeal Cert.ReferenceIdeal.Gen
open Idealize.ShloMosaic

/-- Of four values the one a word names, and zero when it names none. -/
def pick (a : BitVec 32) (g : Fin 4 → EReal) : EReal :=
  if a = 3#32 then g 3 else if a = 2#32 then g 2 else if a = 1#32 then g 1 else if a = 0#32 then g 0 else 0

/-- One expert's step of the reference: its network on every row, put in the rows whose word is `w`. -/
def step (w : BitVec 32) (o : ℕ) (s1 : S4x512x1024.Slices ![o, 0, 0] S1x512x1024) (s2 : S4x1024x512.Slices ![o, 0, 0] S1x1024x512)
    (x : FVec Ideal S1024x512 .f32) (a : IVec S1024 32) (u1 : FVec Ideal S4x512x1024 .f32) (u2 : FVec Ideal S4x1024x512 .f32)
    (prev : FVec Ideal S1024x512 .f32) : FVec Ideal S1024x512 .f32 :=
  select (broadcastInDim S1024x512 ![0, 1] bcast_S1024x1_S1024x512_0_1 (broadcastInDim S1024x1 ![0] bcast_S1024_S1024x1_0
      (cmpi .eq a (broadcastInDim S1024 ![] bcast_S_S1024 (constantI S_ 32 w)))))
    (Host.dotGeneral dot_S1024x1024_S1024x512_S1024x512_1_0_0_1_n_n none
      (maximumf (Host.dotGeneral dot_S1024x512_S512x1024_S1024x1024_1_0_0_1_n_n none x
          (shapeCast S512x1024 (extractStridedSlice S1x512x1024 ![o, 0, 0] u1 s1) shapeCasts_S1x512x1024_S512x1024))
        (broadcastInDim S1024x1024 ![] bcast_S_S1024x1024 (constant S_ .f32 0x00000000#32)))
      (shapeCast S1024x512 (extractStridedSlice S1x1024x512 ![o, 0, 0] u2 s2) shapeCasts_S1x1024x512_S1024x512))
    prev

/-- One expert's step, read at a row and a column. -/
theorem step_apply (w : BitVec 32) (o : ℕ) (ho : o < 4) (s1 : S4x512x1024.Slices ![o, 0, 0] S1x512x1024) (s2 : S4x1024x512.Slices ![o, 0, 0] S1x1024x512)
    (x : FVec Ideal S1024x512 .f32) (a : IVec S1024 32) (u1 : FVec Ideal S4x512x1024 .f32) (u2 : FVec Ideal S4x1024x512 .f32)
    (prev : FVec Ideal S1024x512 .f32) (r : Fin 1024) (j : Fin 512) :
    step w o s1 s2 x a u1 u2 prev (ix2 r j)
      = if a (ix1 r) = w then ffn (fun k => x (ix2 r k)) (fun k h => u1 (ix3 ⟨o, ho⟩ k h)) (fun h j => u2 (ix3 ⟨o, ho⟩ h j)) j else prev (ix2 r j) := by
  have hc : ∀ b : BitVec 32, IntOp.cmpi CmpIPredicate.eq b w = BitVec.ofBool (decide (b = w)) := fun _ => rfl
  pointwise [step]
  rw [hc]
  by_cases h : a (ix1 r) = w
  · rw [decide_eq_true h, if_pos h]; rfl
  · rw [decide_eq_false h, if_neg h]; rfl

/-- The reference's result: the four experts' steps, one after the other, from zero. -/
def plain (x : FVec Ideal S1024x512 .f32) (a : IVec S1024 32) (u1 : FVec Ideal S4x512x1024 .f32) (u2 : FVec Ideal S4x1024x512 .f32) :
    FVec Ideal S1024x512 .f32 :=
  step 3#32 3 slices_S4x512x1024_S1x512x1024_3_0_0 slices_S4x1024x512_S1x1024x512_3_0_0 x a u1 u2
    (step 2#32 2 slices_S4x512x1024_S1x512x1024_2_0_0 slices_S4x1024x512_S1x1024x512_2_0_0 x a u1 u2
      (step 1#32 1 slices_S4x512x1024_S1x512x1024_1_0_0 slices_S4x1024x512_S1x1024x512_1_0_0 x a u1 u2
        (step 0#32 0 slices_S4x512x1024_S1x512x1024_0_0_0 slices_S4x1024x512_S1x1024x512_0_0_0 x a u1 u2
          (broadcastInDim S1024x512 ![] bcast_S_S1024x512 (constant S_ .f32 0x00000000#32)))))

/-- A row's value is the value of the expert its word names. -/
theorem plain_apply (x : FVec Ideal S1024x512 .f32) (a : IVec S1024 32) (u1 : FVec Ideal S4x512x1024 .f32) (u2 : FVec Ideal S4x1024x512 .f32)
    (r : Fin 1024) (j : Fin 512) :
    plain x a u1 u2 (ix2 r j)
      = pick (a (ix1 r)) fun e => ffn (fun k => x (ix2 r k)) (fun k h => u1 (ix3 e k h)) (fun h j => u2 (ix3 e h j)) j := by
  have hz : (broadcastInDim S1024x512 ![] bcast_S_S1024x512 (constant S_ .f32 0x00000000#32) : FVec Ideal S1024x512 .f32) (ix2 r j) = 0 := by
    pointwise
  unfold plain pick
  rw [step_apply _ _ (by decide), step_apply _ _ (by decide), step_apply _ _ (by decide), step_apply _ _ (by decide), hz]
  rfl

open Idealize.ShloMosaic.TcCoe Idealize.SL.Sem in
/-- The reference ends with its result in place and its arguments as they were. -/
theorem plain_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = plain (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Moe.Value

end
-- ==== Proof.Moe.KernelIdeal.Steps.lean ====
/-
The steps of the exchange: splitting buffers into chunks and back, the shared record of every semaphore's invariant,
and a send and a wait on the schedule's semaphores, each one rule.
-/
module

public import proofs.«01_k».proof.Proof.Moe.KernelIdeal.Cells

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## Ownership, split and joined -/

section Own
variable (c : Dev nD) {sp : Space} {e : EltTy} (b : Memref sig .tc sp S512x512 e) (q : PosShare TreeShare)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A buffer of 512 rows is its four chunks. -/
theorem owns_split (X : S512x512.Idx → Elt F e) : (owns (c : Thread nD τ) b q X : sProp 𝕄)
    ⊢ iprop(owns (c : Thread nD τ) (chM b 0) q (fun j => X ((rk 0).emb j)) ∗ owns (c : Thread nD τ) (chM b 1) q (fun j => X ((rk 1).emb j))
        ∗ owns (c : Thread nD τ) (chM b 2) q (fun j => X ((rk 2).emb j)) ∗ owns (c : Thread nD τ) (chM b 3) q (fun j => X ((rk 3).emb j))) :=
  (owns_rects (c : Thread nD τ) b q rk (fun _ _ => rfl) rk_disjoint rk_cover X).trans (Entails.of_eq (bigSep_four _))

/-- Four owned chunks are the buffer, owned at the chunks put together. -/
theorem owns_join (v : Fin 4 → S128x512.Idx → Elt F e) :
    iprop(owns (c : Thread nD τ) (chM b 0) q (v 0) ∗ owns (c : Thread nD τ) (chM b 1) q (v 1)
        ∗ owns (c : Thread nD τ) (chM b 2) q (v 2) ∗ owns (c : Thread nD τ) (chM b 3) q (v 3))
      ⊢ (owns (c : Thread nD τ) b q (assemble v) : sProp 𝕄) := by
  refine (Entails.of_eq ?_).trans (owns_of_rects (c : Thread nD τ) b q rk (fun _ _ => rfl) rk_disjoint rk_cover (assemble v))
  have h : ∀ t, (fun j => assemble v ((rk t).emb j)) = v t := fun t => funext (assemble_emb v t)
  rw [bigSep_four]
  simp only [h]

omit [FloatOps F] in
theorem some_intro {s : Shape} {b : Memref sig .tc sp s e} {q : PosShare TreeShare} (X : s.Idx → Elt F e) :
    (owns (c : Thread nD τ) b q X : sProp 𝕄) ⊢ someOwn c b q := by
  unfold someOwn; iintro H; iexists X; iexact H

theorem some_join :
    iprop(someOwn c (chM b 0) q ∗ someOwn c (chM b 1) q ∗ someOwn c (chM b 2) q ∗ someOwn c (chM b 3) q) ⊢ (someOwn c b q : sProp 𝕄) := by
  unfold someOwn
  iintro ⟨⟨%X0, H0⟩, ⟨%X1, H1⟩, ⟨%X2, H2⟩, ⟨%X3, H3⟩⟩
  iexists assemble (fun | 0 => X0 | 1 => X1 | 2 => X2 | 3 => X3)
  iapply (owns_join c b q (fun | 0 => X0 | 1 => X1 | 2 => X2 | 3 => X3))
  isplitl [H0]; · iexact H0
  isplitl [H1]; · iexact H1
  isplitl [H2] <;> iassumption

omit [FloatOps F] in
theorem some_split :
    (someOwn c b q : sProp 𝕄) ⊢ iprop(someOwn c (chM b 0) q ∗ someOwn c (chM b 1) q ∗ someOwn c (chM b 2) q ∗ someOwn c (chM b 3) q) := by
  refine (show (someOwn c b q : sProp 𝕄) ⊢ iprop(∃ X, owns (c : Thread nD τ) b q X) from .rfl).trans ?_
  iintro ⟨%X, H⟩
  ihave H' := (owns_split c b q X) $$ H
  icases H' with ⟨H0, H1, H2, H3⟩
  isplitl [H0]; · iapply (some_intro c _); iexact H0
  isplitl [H1]; · iapply (some_intro c _); iexact H1
  isplitl [H2]; · iapply (some_intro c _); iexact H2
  iapply (some_intro c _); iexact H3

omit [FloatOps F] in
/-- A lent half come back rejoins the half that stayed. -/
theorem some_rejoin {s : Shape} {b : Memref sig .tc sp s e} (X : s.Idx → Elt F e) :
    iprop(someOwn c b fullShare.left ∗ owns (c : Thread nD τ) b fullShare.right X) ⊢ (someOwn c b fullShare : sProp 𝕄) := by
  refine (sep_mono_left (show (someOwn c b fullShare.left : sProp 𝕄) ⊢ iprop(∃ X, owns (c : Thread nD τ) b fullShare.left X) from .rfl)).trans ?_
  iintro ⟨⟨%Y, Hl⟩, Hr⟩
  iapply (some_intro c Y)
  iapply (owns_rejoin (Φ := fun _ => True) (c : Thread nD τ) b fullShare Y)
  isplitl [Hl]; · iexact Hl
  iapply (show (owns (c : Thread nD τ) b fullShare.right X : sProp 𝕄) ⊢ ownsSat (c : Thread nD τ) b fullShare.right (fun _ => True) from by
    unfold owns ownsSat
    iintro ⟨%f, -, H⟩
    iexists f
    isplitr; · ipureintro; trivial
    iexact H)
  iexact Hr

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer held at its contents is its memref owned at them, and back. -/
theorem own_of_pts (c : Dev nD) (b : Ref sig .tc) (X : b.ty.Contents (Elt F)) :
    ((((c : Thread nD τ).loc b) ↦{fullShare} X) : sProp 𝕄) ⊢ owns (c : Thread nD τ) (Memref.whole b) fullShare X := by
  rw [owns_whole_eq]
  iintro H; iexists X
  isplitr; · ipureintro; rfl
  iexact H
omit [FloatOps F] in
theorem pts_of_own (c : Dev nD) (b : Ref sig .tc) (X : b.ty.Contents (Elt F)) :
    (owns (c : Thread nD τ) (Memref.whole b) fullShare X : sProp 𝕄) ⊢ (((c : Thread nD τ).loc b) ↦{fullShare} X) := by
  rw [owns_whole_eq]
  iintro ⟨%f, %hf, H⟩
  subst hf; iexact H
omit [FloatOps F] in
theorem some_of_pts (c : Dev nD) (b : Ref sig .tc) :
    iprop(∃ f : Buf (Elt F) ((c : Thread nD τ).loc b), ((c : Thread nD τ).loc b) ↦{fullShare} f) ⊢ (someOwn c (Memref.whole b) fullShare : sProp 𝕄) := by
  iintro ⟨%f, H⟩; iapply (some_intro c f); iapply (own_of_pts c b f); iexact H
omit [FloatOps F] in
theorem pts_of_some (c : Dev nD) (b : Ref sig .tc) :
    (someOwn c (Memref.whole b) fullShare : sProp 𝕄) ⊢ iprop(∃ f : Buf (Elt F) ((c : Thread nD τ).loc b), ((c : Thread nD τ).loc b) ↦{fullShare} f) := by
  unfold someOwn
  iintro ⟨%X, H⟩; iexists X; iapply (pts_of_own c b X); iexact H

end Own

/-! ## The shared record -/

/-- A device's twenty semaphores: its barrier, then its scoped ones. -/
abbrev oall : Fin 20 → SemLoc sig := Fin.cases (.reg barS) osem
abbrev kcell (ck : Dev nD × Fin 20) : GSem nD τ sig := ((ck.1 : Thread nD τ), oall ck.2)

def records (K : Dev nD × Fin 20 → ℕ) : sProp 𝕄 :=
  iprop((bigSep Finset.univ fun ck : Dev nD × Fin 20 => cellInv EX (Rd m ρ) (K ck) (kcell ck))
    ∗ bigSep Finset.univ fun ck : Dev nD × Fin 20 => reached EX (kcell ck) 0)
instance records_persistent (K : Dev nD × Fin 20 → ℕ) : BI.Persistent (records m ρ K) := by unfold records; infer_instance

/-- What every step may consult: each semaphore's invariant, that its one round is open, and the levels. -/
def ctx (K : Dev nD × Fin 20 → ℕ) : sProp 𝕄 := iprop(records m ρ K ∗ levAts L lv)
instance ctx_persistent (K : Dev nD × Fin 20 → ℕ) : BI.Persistent (ctx m ρ K) := by unfold ctx; infer_instance

variable (K : Dev nD × Fin 20 → ℕ)

theorem ctx_inv (ck : Dev nD × Fin 20) : ctx m ρ K ⊢ cellInv EX (Rd m ρ) (K ck) (kcell ck) := by
  unfold ctx records
  iintro ⟨⟨H, -⟩, -⟩
  iapply (show (bigSep Finset.univ fun ck : Dev nD × Fin 20 => (cellInv EX (Rd m ρ) (K ck) (kcell ck) : sProp 𝕄)) ⊢ cellInv EX (Rd m ρ) (K ck) (kcell ck) from bigSep_elim (Finset.mem_univ ck))
  iexact H
theorem ctx_reached (ck : Dev nD × Fin 20) : ctx m ρ K ⊢ reached EX (kcell ck) 0 := by
  unfold ctx records
  iintro ⟨⟨-, H⟩, -⟩
  iapply (show (bigSep Finset.univ fun ck : Dev nD × Fin 20 => (reached EX (kcell ck) 0 : sProp 𝕄)) ⊢ reached EX (kcell ck) 0 from bigSep_elim (Finset.mem_univ ck))
  iexact H
theorem ctx_lev : ctx m ρ K ⊢ (levAts L lv : sProp 𝕄) := by unfold ctx; iintro ⟨-, H⟩; iexact H

/-- The cells owed, whatever waits are recorded. -/
def owesE (c : Dev nD) (O : CellTallies nD τ sig Unit) : sProp 𝕄 := iprop(∃ W, owes (c : Thread nD τ) O W)

/-- What a device needs to send number `j`, to receive number `j`, and what a send leaves it. -/
def pay (c : Dev nD) (j : Fin 9) : sProp 𝕄 :=
  iprop(dutyTok EX (dC c (sI j)) 0 () ∗ dutyTok EX (dC (peer c) (rI j)) 0 () ∗ atPos EX (dC c (sI j)) 0 ∅ 0)
def rcv (c : Dev nD) (j : Fin 9) : sProp 𝕄 := iprop(cred (tallyAt (dC c (rI j)) () (amt (rI j))) ∗ atPos EX (dC c (rI j)) 0 ∅ 0)
def snt (c : Dev nD) (j : Fin 9) : sProp 𝕄 := iprop(cred (tallyAt (dC c (sI j)) () (amt (sI j))) ∗ atPos EX (dC c (sI j)) 0 ∅ 0)

theorem amt_send (j : Fin 9) : amt (sI j) = amt (rI j) := by
  have hj := j.isLt
  unfold amt
  simp only []
  rw [if_neg (show ¬ 1 + j.val = 0 by omega), if_neg (show ¬ 10 + j.val = 0 by omega)]
  by_cases h : j.val = 0
  · rw [if_pos (show 1 + j.val = 1 ∨ 1 + j.val = 10 by omega), if_pos (show 10 + j.val = 1 ∨ 10 + j.val = 10 by omega)]
  · rw [if_neg (show ¬ (1 + j.val = 1 ∨ 1 + j.val = 10) by omega), if_neg (show ¬ (10 + j.val = 1 ∨ 10 + j.val = 10) by omega)]

section Rules
variable (c : Dev nD) {α : Type} {Q : α → sProp (MT nD τ sig Unit (Elt F) ℕ UU ℕ)}

/-- Send number `j`: the source goes out on its share, the partner's landing buffer with it; the debt of the partner's
    receive is paid and the send's completion is to be waited for. -/
theorem wp_send (j : Fin 9) (l : List (Fin 9)) {sp sp' : Space} {s : Shape} {e : EltTy} (n : Dev nD) (hn : n = peer c)
    {src : Memref sig .tc sp s e} {dst : Memref sig .tc sp' s e} {hsc : dst.view.ref.isScScratch = false}
    {hsrc : src.view.WordExact} {hdst : dst.view.WordExact}
    {hsem : DmaTarget.Typed sp (.dma (dS (rI j))) (.remote (Dev.tc n : Thread nD τ) dst (.dma (dS (sI j))) hsc)}
    {k : PUnit → Prog (TpuEff nD τ sig (Elt F) Λ₀ .tc) α} {q : PosShare TreeShare} (X Y : s.Idx → Elt F e)
    (hN : dst.view.dmaCredit = amt (rI j))
    (h₁ : (owns (c : Thread nD τ) src q X : sProp 𝕄) ⊢ sendPay c j)
    (h₂ : (owns (peer c : Thread nD τ) dst fullShare X : sProp 𝕄) ⊢ recvPay m ρ (peer c) j) :
    iprop(ctx m ρ K ∗ pay c j ∗ owns (c : Thread nD τ) src q X ∗ owns (peer c : Thread nD τ) dst fullShare Y ∗ owesE c (debt c (j :: l)))
      ⊢ iprop(((snt c j ∗ owesE c (debt c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (dS (sI j))) hsc) (.dma (dS (rI j))) hsrc hdst hsem) k) Q) := by
  subst hn
  unfold pay snt owesE
  iintro ⟨#HK, ⟨Ht, Ht', Hat⟩, Hs, Hd, ⟨%W, HO⟩⟩ Hk
  iapply (Cert.Owned.wp_send_own 𝒱₀ EX (Rd m ρ) (c : Thread nD τ) none (c' := (peer c : Thread nD τ)) (src := src) (dst := dst) (sS := .dma (dS (sI j))) (sem := .dma (dS (rI j))) (κ₁ := K (c, (sI j).succ)) (κ₂ := K (peer c, (rI j).succ))
    (r₁ := 0) (r₂ := 0) (d₁ := ()) (d₂ := ()) X Y (by rw [duties_dma]; exact Finset.mem_singleton_self _) (by rw [duties_dma]; exact Finset.mem_singleton_self _)
    () () (amt (rI j)) hN ((amount_dma m ρ c (sI j)).trans (amt_send j)) (amount_dma m ρ (peer c) (rI j)) (debt c l) rfl (W := W)
    (by rw [payload_send]; exact h₁) (by rw [payload_recv]; exact h₂)) $$ [Ht Ht' Hs Hd HO]
  · isplitr; · iapply (ctx_inv m ρ K (c, (sI j).succ)); iexact HK
    isplitr; · iapply (ctx_inv m ρ K (peer c, (rI j).succ)); iexact HK
    isplitl [Hs]; · iexact Hs
    isplitl [Hd]; · iexact Hd
    isplitl [HO]; · iexact HO
    isplitl [Ht]; · iexact Ht
    isplitr; · iapply (ctx_reached m ρ K (c, (sI j).succ)); iexact HK
    isplitl [Ht']; · iexact Ht'
    iapply (ctx_reached m ρ K (peer c, (rI j).succ)); iexact HK
  iintro ⟨Hc, HO⟩
  iapply Hk
  isplitl [Hc Hat]
  · isplitl [Hc]
    · rw [amt_send]; iexact Hc
    · iexact Hat
  iexists W; iexact HO

/-- The wait on a scoped semaphore for all that completes on it: its payload comes, and its counter is zero for good. -/
theorem wp_wait (i : Fin 19) (O : CellTallies nD τ sig Unit) {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} (hN : dst.view.dmaCredit = amt i)
    (hM : (levAts L lv : sProp 𝕄) ⊢ MayWait (c : Thread nD τ) (.dma (dS i)) () O) :
    iprop(ctx m ρ K ∗ (cred (tallyAt (dC c i) () (amt i)) ∗ atPos EX (dC c i) 0 ∅ 0) ∗ owesE c O)
      ⊢ iprop(((owesE c O ∗ semVal (dC c i) 0 ∗ (Rd (F := F) m ρ).payload (dC c i) 0 ()) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS i) src dst hsrc hdst) k) Q) := by
  unfold owesE
  iintro ⟨#HK, ⟨Hc, Hat⟩, ⟨%W, HO⟩⟩ Hk
  iapply (Rounds.wp_wait_rest_token 𝒱₀ EX (Rd m ρ) (c : Thread nD τ) none (κ := K (c, i.succ))
      (wpE_waitDma2_eq 𝒱₀ (c : Thread nD τ) none Set.univ) (Set.mem_univ _) () (O := O) (W := W) (R := 0) (m := 0) (T := ∅)
      (by rw [Nat.zero_add, hN, expect_dma m ρ c i])) $$ [Hc HO Hat]
  · isplitr; · iapply (ctx_inv m ρ K (c, i.succ)); iexact HK
    isplitl [Hc]; · rw [hN]; iexact Hc
    isplitl [HO]; · iexact HO
    isplitr; · iapply hM; iapply (ctx_lev m ρ K); iexact HK
    iexact Hat
  iintro ⟨HO, Hat, -, Hpay⟩
  imod (Rounds.cell_close EX (Rd m ρ) (κ := K (c, i.succ)) (g := dC c i) (Set.mem_univ _) (fun h => h) (R := 0 + 1) (duties_later m ρ (dC c i))) $$ [Hat] with Hz
  · isplitr; · iapply (ctx_inv m ρ K (c, i.succ)); iexact HK
    iexact Hat
  iapply Hk
  isplitl [HO]; · iexists (insert (SemLoc.dma (dS i), ()) W); iexact HO
  isplitl [Hz]; · iexact Hz
  iapply (Entails.of_eq (rest_dma m ρ c i)); iexact Hpay

theorem mayWait_none (sm : SemLoc sig) : (levAts L lv : sProp 𝕄) ⊢ MayWait (c : Thread nD τ) sm () (debt c []) := by
  unfold debt; rw [MayWait_zero]; iintro -; iempintro

/-- Receive number `j`, what is still owed lying above it. -/
theorem wp_recv (j : Fin 9) (l : List (Fin 9)) (P : sProp (MT nD τ sig Unit (Elt F) ℕ UU ℕ)) {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} (hP : recvPay m ρ c j = P) (hN : dst.view.dmaCredit = amt (rI j))
    (hl : ∀ j' ∈ l, lev (.dma (dS (rI j)) : SemLoc sig) < lev (.dma (dS (rI j')) : SemLoc sig)) :
    iprop(ctx m ρ K ∗ rcv c j ∗ owesE c (debt c l))
      ⊢ iprop(((owesE c (debt c l) ∗ semVal (dC c (rI j)) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (rI j)) src dst hsrc hdst) k) Q) := by
  subst hP
  rw [← payload_recv]
  unfold rcv
  exact wp_wait m ρ K c (rI j) (debt c l) hN (mayWait_debt c _ l hl)

/-- The completion of send number `j`, nothing being owed any more. -/
theorem wp_sent (j : Fin 9) (P : sProp (MT nD τ sig Unit (Elt F) ℕ UU ℕ)) {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} (hP : sendPay c j = P) (hN : dst.view.dmaCredit = amt (sI j)) :
    iprop(ctx m ρ K ∗ snt c j ∗ owesE c (debt c []))
      ⊢ iprop(((owesE c (debt c []) ∗ semVal (dC c (sI j)) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dS (sI j)) src dst hsrc hdst) k) Q) := by
  subst hP
  rw [← payload_send m ρ]
  unfold snt
  exact wp_wait m ρ K c (sI j) (debt c []) hN (mayWait_none c _)

end Rules

end Cert.Moe.KernelIdeal

end
-- ==== Proof.Moe.KernelIdeal.PartA.lean ====
/-
The first part of the body: the barrier with the partner, the load of `x`, and the two send buffers filled.
-/
module

public import proofs.«01_k».proof.Proof.Moe.KernelIdeal.Steps

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

theorem hz1 : (![0] : Fin 1 → Nat) = fun _ => 0 := funext fun a => by fin_cases a; rfl
theorem hz2 : (![0, 0] : Fin 2 → Nat) = fun _ => 0 := funext fun a => by fin_cases a <;> rfl

set_option maxHeartbeats 1600000 in
/-- The partners meet, `x` is loaded, the assignment row and the rows to send are written. -/
theorem part1_spec {Q : (Σ' (d0 : Dev nD) (v2 : BitVec 32) (v5 : BitVec 32) (v8 : BitVec 32) (v9 : BitVec 32), BitVec 32) → sProp (MT nD τ sig Unit (Elt F) ℕ UU ℕ)} :
    iprop(ctx m ρ K
        ∗ owesE c (O₀ c)
        ∗ dutyTok EX (barC (peer c)) 0 ()
        ∗ landing c
        ∗ cred (tallyAt (barC c) () 1)
        ∗ atPos EX (barC c) 0 ∅ 0
        ∗ dutyTok EX (dC c 0) 0 ()
        ∗ atPos EX (dC c 0) 0 ∅ 0
        ∗ owns (c : Thread nD τ) xM fullShare (xin m ρ c)
        ∗ someOwn c xvM fullShare
        ∗ owns (c : Thread nD τ) aM fullShare (ain m ρ c)
        ∗ someOwn c asM fullShare
        ∗ someOwn c xsM fullShare)
      ⊢ iprop(((owesE c (debt c [0, 1, 2, 3, 4, 5, 6, 7, 8])
            ∗ semVal (barC c) 0
            ∗ semVal (dC c 0) 0
            ∗ landing (peer c)
            ∗ owns (c : Thread nD τ) xvM fullShare (xin m ρ c)
            ∗ owns (c : Thread nD τ) xM fullShare (xin m ρ c)
            ∗ owns (c : Thread nD τ) aM fullShare (ain m ρ c)
            ∗ owns (c : Thread nD τ) asM fullShare (asv m ρ c)
            ∗ owns (c : Thread nD τ) xsM fullShare (xsv m ρ c)) -∗ Q ⟨c, Scalar.remsi (Scalar.divsi (Dev.word c) 4#32) 2#32, Scalar.remsi (Scalar.divsi (Dev.word c) 2#32) 2#32, Scalar.remsi (Scalar.divsi (Dev.word c) 1#32) 2#32, Scalar.subi 1#32 (Scalar.remsi (Scalar.divsi (Dev.word c) 1#32) 2#32), 4#32⟩)
          -∗ wp frame (wpE (defs₀ (F := F)) 𝒱₀ (c : Thread nD τ) none) Set.univ (k0_part1 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HK, HO, HtB, Hland, HcB, HaB, HtL, HaL, Hx, Hxv, Ha, Has, Hxs⟩ Hk
  unfold someOwn owesE
  icases HO with ⟨%W, HO⟩
  icases Hxv with ⟨%Xv, Hxv⟩
  icases Has with ⟨%Xa, Has⟩
  icases Hxs with ⟨%Xs, Hxs⟩
  simp only [dev1_eq c]
  unfold O₀
  iapply (Rounds.wp_signal 𝒱₀ EX (Rd m ρ) (c : Thread nD τ) none (dst := (peer c : Thread nD τ)) (κ := K (peer c, 0))
      (d := ()) (by rw [duties_bar]; exact Finset.mem_singleton_self _) rfl () (debt c [0, 1, 2, 3, 4, 5, 6, 7, 8]) rfl) $$ [HO HtB Hland]
  · isplitr; · iapply (ctx_inv m ρ K (peer c, 0)); iexact HK
    isplitl [HO]; · iexact HO
    isplitl [HtB]; · iexact HtB
    isplitl [Hland]
    · rw [payload_bar, peer_peer]; iexact Hland
    iapply (ctx_reached m ρ K (peer c, 0)); iexact HK
  iintro HO
  iapply (Cert.Owned.wp_copy_own 𝒱₀ EX (Rd m ρ) (c : Thread nD τ) none (q := fullShare) (κ := K (c, 1)) (src := xM) (dst := xvM) (sem := .dma (dS 0)) (r := 0) (d := ()) (xin m ρ c) Xv
      (by rw [duties_dma]; exact Finset.mem_singleton_self _) () (amt 0) rfl (amount_dma m ρ c 0)
      (by rw [payload_load]; unfold loadPay; exact .rfl)) $$ [Hx Hxv HtL]
  · isplitr; · iapply (ctx_inv m ρ K (c, 1)); iexact HK
    isplitl [Hx]; · iexact Hx
    isplitl [Hxv]; · iexact Hxv
    isplitl [HtL]; · iexact HtL
    iapply (ctx_reached m ρ K (c, 1)); iexact HK
  iintro HcL
  iapply (Cert.Owned.wp_load_own 𝒱₀ (c : Thread nD τ) none (m := aM) (X := ain m ρ c) (ain m ρ c) (fun x => congrArg _ (Cert.Owned.emb_full hz1 _ x))) $$ Ha
  iintro Ha
  iapply (Cert.Owned.wp_load_own 𝒱₀ (c : Thread nD τ) none (m := asM) (X := Xa) (Xa) (fun x => congrArg _ (Cert.Owned.emb_full hz2 _ x))) $$ Has
  iintro Has
  iapply (Cert.Owned.wp_store_own 𝒱₀ (c : Thread nD τ) none (m := asM) Xa (asv m ρ c) (fun y => ⟨y, Cert.Owned.emb_full (s := S1x512) hz2 _ y, rfl⟩)) $$ Has
  iintro Has
  iapply (wp_wait m ρ K c 0 (debt c [0, 1, 2, 3, 4, 5, 6, 7, 8]) rfl (mayWait_debt c _ _ (by decide))) $$ [HcL HaL HO]
  · isplitr; · iexact HK
    isplitl [HcL HaL]; · isplitl [HcL] <;> iassumption
    unfold owesE; iexists W; iexact HO
  iintro ⟨HO, HzL, Hpay⟩
  ihave Hp2 := (Entails.of_eq (payload_load m ρ c)) $$ Hpay
  unfold loadPay owesE
  icases Hp2 with ⟨Hxv, Hx⟩
  icases HO with ⟨%W', HO⟩
  iapply (Cert.Owned.wp_load_own 𝒱₀ (c : Thread nD τ) none (m := xvM) (X := xin m ρ c) (xin m ρ c) (fun x => congrArg _ (Cert.Owned.emb_full hz2 _ x))) $$ Hxv
  iintro Hxv
  iapply (Cert.Owned.wp_load_own 𝒱₀ (c : Thread nD τ) none (m := xsM) (X := Xs) (Xs) (fun x => congrArg _ (Cert.Owned.emb_full hz2 _ x))) $$ Hxs
  iintro Hxs
  iapply (Cert.Owned.wp_store_own 𝒱₀ (c : Thread nD τ) none (m := xsM) Xs (xsv m ρ c) (fun y => ⟨y, Cert.Owned.emb_full (s := S512x512) hz2 _ y, rfl⟩)) $$ Hxs
  iintro Hxs
  iapply (Rounds.wp_wait_rest_token 𝒱₀ EX (Rd m ρ) (c : Thread nD τ) none (κ := K (c, 0))
      (wpE_semWait_eq 𝒱₀ (c : Thread nD τ) none Set.univ) (Set.mem_univ _) () (O := debt c [0, 1, 2, 3, 4, 5, 6, 7, 8]) (W := W') (R := 0) (m := 0) (T := ∅)
      (by rw [expect_bar]; rfl)) $$ [HcB HO HaB]
  · isplitr; · iapply (ctx_inv m ρ K (c, 0)); iexact HK
    isplitl [HcB]; · iexact HcB
    isplitl [HO]; · iexact HO
    isplitr; · iapply (mayWait_debt c (.reg barS) _ (by decide)); iapply (ctx_lev m ρ K); iexact HK
    iexact HaB
  iintro ⟨HO, HaB, -, Hpay⟩
  ihave Hland := (Entails.of_eq (rest_bar m ρ c)) $$ Hpay
  imod (Rounds.cell_close EX (Rd m ρ) (κ := K (c, 0)) (g := barC c) (Set.mem_univ _) (fun h => h) (R := 0 + 1) (duties_later m ρ (barC c))) $$ [HaB] with HzB
  · isplitr; · iapply (ctx_inv m ρ K (c, 0)); iexact HK
    iexact HaB
  ihave HO := (show (owes (c : Thread nD τ) (debt c [0, 1, 2, 3, 4, 5, 6, 7, 8]) (insert (SemLoc.reg barS, ()) W') : sProp 𝕄)
      ⊢ iprop(∃ W, owes (c : Thread nD τ) (debt c [0, 1, 2, 3, 4, 5, 6, 7, 8]) W) from by iintro H; iexists _; iexact H) $$ HO
  rw [wp_ret]; imodintro
  iapply Hk
  isplitl [HO]; · iexact HO
  isplitl [HzB]; · iexact HzB
  isplitl [HzL]; · iexact HzL
  isplitl [Hland]; · iexact Hland
  isplitl [Hxv]; · iexact Hxv
  isplitl [Hx]; · iexact Hx
  isplitl [Ha]; · iexact Ha
  isplitl [Has]; · iexact Has
  iexact Hxs

end Cert.Moe.KernelIdeal

end
-- ==== Proof.Moe.KernelIdeal.PartB.lean ====
/-
The sends of the assignment row and of the four chunks of `x`, and the device's own contribution.
-/
module

public import proofs.«01_k».proof.Proof.Moe.KernelIdeal.PartA

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

/-- The assignment row and the first two chunks of `x` go out. -/
theorem part2_spec {v2 v5 v9 : BitVec 32} {c4 : BitVec 32} {Q : PUnit → sProp (MT nD τ sig Unit (Elt F) ℕ UU ℕ)} :
    iprop(ctx m ρ K
        ∗ owesE c (debt c [0, 1, 2, 3, 4, 5, 6, 7, 8])
        ∗ pay c 0
        ∗ pay c 1
        ∗ pay c 2
        ∗ owns (c : Thread nD τ) asM fullShare.left (asv m ρ c)
        ∗ someOwn (peer c) abM fullShare
        ∗ owns (c : Thread nD τ) (chM xsM 0) fullShare.left (xcv m ρ c 0)
        ∗ someOwn (peer c) (chM xbM 0) fullShare
        ∗ owns (c : Thread nD τ) (chM xsM 1) fullShare.left (xcv m ρ c 1)
        ∗ someOwn (peer c) (chM xbM 1) fullShare)
      ⊢ iprop(((owesE c (debt c [3, 4, 5, 6, 7, 8])
            ∗ snt c 0
            ∗ snt c 1
            ∗ snt c 2) -∗ Q ⟨⟩)
          -∗ wp frame (wpE (defs₀ (F := F)) 𝒱₀ (c : Thread nD τ) none) Set.univ (k0_part2 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v9 c4) Q) := by
  rw [k0_part2_eq_skeleton]; unfold k0_part2_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp0, Hp1, Hp2, Hsa, Hda, Hs0, Hd0, Hs1, Hd1⟩ Hk
  unfold someOwn
  icases Hda with ⟨%XHda, Hda⟩
  icases Hd0 with ⟨%XHd0, Hd0⟩
  icases Hd1 with ⟨%XHd1, Hd1⟩
  iapply (wp_send m ρ K c 0 [1, 2, 3, 4, 5, 6, 7, 8] _ (dev2_eq c) (q := fullShare.left) (src := asM) (dst := abM) (asv m ρ c) XHda (by rfl)
      (some_intro c _) (by unfold recvPay; rw [peer_peer])) $$ [Hp0 Hsa Hda HO]
  · isplitr; · iexact HK
    isplitl [Hp0]; · iexact Hp0
    isplitl [Hsa]; · iexact Hsa
    isplitl [Hda]; · iexact Hda
    iexact HO
  iintro ⟨Hn0, HO⟩
  iapply (wp_send m ρ K c 1 [2, 3, 4, 5, 6, 7, 8] _ (dev3_eq c) (q := fullShare.left) (src := (chM xsM 0)) (dst := (chM xbM 0)) (xcv m ρ c 0) XHd0 (by rfl)
      (some_intro c _) (by unfold recvPay; rw [peer_peer])) $$ [Hp1 Hs0 Hd0 HO]
  · isplitr; · iexact HK
    isplitl [Hp1]; · iexact Hp1
    isplitl [Hs0]; · iexact Hs0
    isplitl [Hd0]; · iexact Hd0
    iexact HO
  iintro ⟨Hn1, HO⟩
  iapply (wp_send m ρ K c 2 [3, 4, 5, 6, 7, 8] _ (dev4_eq c) (q := fullShare.left) (src := (chM xsM 1)) (dst := (chM xbM 1)) (xcv m ρ c 1) XHd1 (by rfl)
      (some_intro c _) (by unfold recvPay; rw [peer_peer])) $$ [Hp2 Hs1 Hd1 HO]
  · isplitr; · iexact HK
    isplitl [Hp2]; · iexact Hp2
    isplitl [Hs1]; · iexact Hs1
    isplitl [Hd1]; · iexact Hd1
    iexact HO
  iintro ⟨Hn2, HO⟩
  rw [wp_ret]; imodintro
  iapply Hk
  isplitl [HO]; · iexact HO
  isplitl [Hn0]; · iexact Hn0
  isplitl [Hn1]; · iexact Hn1
  iexact Hn2

/-- The last two chunks of `x` go out, and the assignment row is read back. -/
theorem part3_spec {v2 v5 v9 : BitVec 32} {v8 : BitVec 32} {Q : (Σ' (v87 : BitVec 32) (v92 : FVec F S512x512 .f32), FVec F S512x1 .f32) → sProp (MT nD τ sig Unit (Elt F) ℕ UU ℕ)} :
    iprop(ctx m ρ K
        ∗ owesE c (debt c [3, 4, 5, 6, 7, 8])
        ∗ pay c 3
        ∗ pay c 4
        ∗ owns (c : Thread nD τ) (chM xsM 2) fullShare.left (xcv m ρ c 2)
        ∗ someOwn (peer c) (chM xbM 2) fullShare
        ∗ owns (c : Thread nD τ) (chM xsM 3) fullShare.left (xcv m ρ c 3)
        ∗ someOwn (peer c) (chM xbM 3) fullShare
        ∗ owns (c : Thread nD τ) asM fullShare.right (asv m ρ c))
      ⊢ iprop(((owesE c (debt c [5, 6, 7, 8])
            ∗ snt c 3
            ∗ snt c 4
            ∗ owns (c : Thread nD τ) asM fullShare.right (asv m ρ c)) -∗ Q ⟨Scalar.muli 2#32 v8, k0_pay3 (F := F), k0_pay4 (asv m ρ c)⟩)
          -∗ wp frame (wpE (defs₀ (F := F)) 𝒱₀ (c : Thread nD τ) none) Set.univ (k0_part3 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v8 v9) Q) := by
  rw [k0_part3_eq_skeleton]; unfold k0_part3_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp3, Hp4, Hs2, Hd2, Hs3, Hd3, Has⟩ Hk
  unfold someOwn
  icases Hd2 with ⟨%XHd2, Hd2⟩
  icases Hd3 with ⟨%XHd3, Hd3⟩
  iapply (wp_send m ρ K c 3 [4, 5, 6, 7, 8] _ (dev5_eq c) (q := fullShare.left) (src := (chM xsM 2)) (dst := (chM xbM 2)) (xcv m ρ c 2) XHd2 (by rfl)
      (some_intro c _) (by unfold recvPay; rw [peer_peer])) $$ [Hp3 Hs2 Hd2 HO]
  · isplitr; · iexact HK
    isplitl [Hp3]; · iexact Hp3
    isplitl [Hs2]; · iexact Hs2
    isplitl [Hd2]; · iexact Hd2
    iexact HO
  iintro ⟨Hn3, HO⟩
  iapply (wp_send m ρ K c 4 [5, 6, 7, 8] _ (dev6_eq c) (q := fullShare.left) (src := (chM xsM 3)) (dst := (chM xbM 3)) (xcv m ρ c 3) XHd3 (by rfl)
      (some_intro c _) (by unfold recvPay; rw [peer_peer])) $$ [Hp4 Hs3 Hd3 HO]
  · isplitr; · iexact HK
    isplitl [Hp4]; · iexact Hp4
    isplitl [Hs3]; · iexact Hs3
    isplitl [Hd3]; · iexact Hd3
    iexact HO
  iintro ⟨Hn4, HO⟩
  iapply (Cert.Owned.wp_load_own 𝒱₀ (c : Thread nD τ) none (m := asM) (X := asv m ρ c) (asv m ρ c) (fun x => congrArg _ (Cert.Owned.emb_full hz2 _ x))) $$ Has
  iintro Has
  rw [wp_ret]; imodintro
  iapply Hk
  isplitl [HO]; · iexact HO
  isplitl [Hn3]; · iexact Hn3
  isplitl [Hn4]; · iexact Hn4
  iexact Has

/-- The device's own rows go through its two experts. -/
theorem part4_spec {Q : (FVec F S512x512 .f32) → sProp (MT nD τ sig Unit (Elt F) ℕ UU ℕ)} :
    iprop(ctx m ρ K
        ∗ owns (c : Thread nD τ) xsM fullShare.right (xsv m ρ c)
        ∗ owns (c : Thread nD τ) w1M fullShare (w1in m ρ c)
        ∗ owns (c : Thread nD τ) w2M fullShare (w2in m ρ c))
      ⊢ iprop(((owns (c : Thread nD τ) xsM fullShare.right (xsv m ρ c)
            ∗ owns (c : Thread nD τ) w1M fullShare (w1in m ρ c)
            ∗ owns (c : Thread nD τ) w2M fullShare (w2in m ρ c)) -∗ Q (acc m ρ c))
          -∗ wp frame (wpE (defs₀ (F := F)) 𝒱₀ (c : Thread nD τ) none) Set.univ (k0_part4 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 (e0 c) (k0_pay4 (asv m ρ c))) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HK, Hxs, Hw1, Hw2⟩ Hk
  unfold acc
  iapply (Cert.Owned.wp_load_own 𝒱₀ (c : Thread nD τ) none (m := xsM) (X := xsv m ρ c) (xsv m ρ c) (fun x => congrArg _ (Cert.Owned.emb_full hz2 _ x))) $$ Hxs
  iintro Hxs
  iapply (Cert.Owned.wp_load_own 𝒱₀ (c : Thread nD τ) none (m := w1M) (X := w1in m ρ c) (w1a m ρ c) (fun _ => rfl)) $$ Hw1
  iintro Hw1
  iapply (Cert.Owned.wp_load_own 𝒱₀ (c : Thread nD τ) none (m := w2M) (X := w2in m ρ c) (w2a m ρ c) (fun _ => rfl)) $$ Hw2
  iintro Hw2
  iapply (Cert.Owned.wp_load_own 𝒱₀ (c : Thread nD τ) none (m := w1M) (X := w1in m ρ c) (w1b m ρ c) (fun _ => rfl)) $$ Hw1
  iintro Hw1
  iapply (Cert.Owned.wp_load_own 𝒱₀ (c : Thread nD τ) none (m := w2M) (X := w2in m ρ c) (w2b m ρ c) (fun _ => rfl)) $$ Hw2
  iintro Hw2
  rw [wp_ret]; imodintro
  iapply Hk
  isplitl [Hxs]; · iexact Hxs
  isplitl [Hw1]; · iexact Hw1
  iexact Hw2

end Cert.Moe.KernelIdeal

end
-- ==== Proof.Moe.KernelIdeal.PartC.lean ====
/-
The partner's assignment row and its first chunks come in, go through the two experts, and go back.
-/
module

public import proofs.«01_k».proof.Proof.Moe.KernelIdeal.PartB

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

/-- The partner's assignment row and the first chunk of its rows come in. -/
theorem part5_spec {v2 v5 v9 : BitVec 32} {Q : (Σ' (v144 : FVec F S512x1 .f32) (v155 : Vec F S128x512 .bf16) (v156 : FVec F S128x1 .f32) (v157 : FVec F S128x512 .f32), FVec F S128x512 .bf16) → sProp (MT nD τ sig Unit (Elt F) ℕ UU ℕ)} :
    iprop(ctx m ρ K
        ∗ owesE c (debt c [5, 6, 7, 8])
        ∗ rcv c 0
        ∗ rcv c 1)
      ⊢ iprop(((owesE c (debt c [5, 6, 7, 8])
            ∗ semVal (dC c (rI 0)) 0
            ∗ semVal (dC c (rI 1)) 0
            ∗ owns (c : Thread nD τ) abM fullShare (asv m ρ (peer c))
            ∗ owns (c : Thread nD τ) (chM xbM 0) fullShare (xcv m ρ (peer c) 0)) -∗ Q ⟨pcol m ρ c, xcv m ρ (peer c) 0, k0_pay7 (k0_pay3 (F := F)) (asv m ρ (peer c)), k0_pay8 (F := F), k0_pay9 (e0 c) (k0_pay3 (F := F)) (asv m ρ (peer c)) (xcv m ρ (peer c) 0)⟩)
          -∗ wp frame (wpE (defs₀ (F := F)) 𝒱₀ (c : Thread nD τ) none) Set.univ (k0_part5 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 v9 (e0 c) (k0_pay3 (F := F))) Q) := by
  rw [k0_part5_eq_skeleton]; unfold k0_part5_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hr0, Hr1⟩ Hk
  unfold pcol
  iapply (wp_recv m ρ K c 0 [5, 6, 7, 8] (owns (c : Thread nD τ) abM fullShare (asv m ρ (peer c))) (dst := abM) rfl (by rfl) (by decide)) $$ [Hr0 HO]
  · isplitr; · iexact HK
    isplitl [Hr0]; · iexact Hr0
    iexact HO
  iintro ⟨HO, Hz0, Hb0⟩
  iapply (Cert.Owned.wp_load_own 𝒱₀ (c : Thread nD τ) none (m := abM) (X := asv m ρ (peer c)) (asv m ρ (peer c)) (fun x => congrArg _ (Cert.Owned.emb_full hz2 _ x))) $$ Hb0
  iintro Hb0
  iapply (wp_recv m ρ K c 1 [5, 6, 7, 8] (owns (c : Thread nD τ) (chM xbM 0) fullShare (xcv m ρ (peer c) 0)) (dst := (chM xbM 0)) rfl (by rfl) (by decide)) $$ [Hr1 HO]
  · isplitr; · iexact HK
    isplitl [Hr1]; · iexact Hr1
    iexact HO
  iintro ⟨HO, Hz1, Hb1⟩
  iapply (Cert.Owned.wp_load_part 𝒱₀ (c : Thread nD τ) none (m := xbM) (r := rk 0) (fun _ => rfl) (X := xcv m ρ (peer c) 0)) $$ Hb1
  iintro Hb1
  rw [wp_ret]; imodintro
  iapply Hk
  isplitl [HO]; · iexact HO
  isplitl [Hz0]; · iexact Hz0
  isplitl [Hz1]; · iexact Hz1
  isplitl [Hb0]; · iexact Hb0
  iexact Hb1

/-- The first chunk goes through the two experts. -/
theorem part6_spec {v2 v5 : BitVec 32} {Q : (BitVec 32) → sProp (MT nD τ sig Unit (Elt F) ℕ UU ℕ)} :
    iprop(ctx m ρ K
        ∗ owns (c : Thread nD τ) w1M fullShare (w1in m ρ c)
        ∗ owns (c : Thread nD τ) w2M fullShare (w2in m ρ c)
        ∗ someOwn c (chM sbM 0) fullShare)
      ⊢ iprop(((owns (c : Thread nD τ) w1M fullShare (w1in m ρ c)
            ∗ owns (c : Thread nD τ) w2M fullShare (w2in m ρ c)
            ∗ owns (c : Thread nD τ) (chM sbM 0) fullShare (sbv m ρ c 0)) -∗ Q (Scalar.addi (Scalar.addi 0#32 (Scalar.muli v2 4#32)) (Scalar.muli v5 2#32)))
          -∗ wp frame (wpE (defs₀ (F := F)) 𝒱₀ (c : Thread nD τ) none) Set.univ (k0_part6 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 (e0 c) (xcv m ρ (peer c) 0) (k0_pay7 (k0_pay3 (F := F)) (asv m ρ (peer c))) (k0_pay8 (F := F)) (k0_pay9 (e0 c) (k0_pay3 (F := F)) (asv m ρ (peer c)) (xcv m ρ (peer c) 0))) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HK, Hw1, Hw2, Hsb⟩ Hk
  unfold someOwn
  iapply (Cert.Owned.wp_load_own 𝒱₀ (c : Thread nD τ) none (m := w1M) (X := w1in m ρ c) (w1a m ρ c) (fun _ => rfl)) $$ Hw1
  iintro Hw1
  iapply (Cert.Owned.wp_load_own 𝒱₀ (c : Thread nD τ) none (m := w2M) (X := w2in m ρ c) (w2a m ρ c) (fun _ => rfl)) $$ Hw2
  iintro Hw2
  iapply (Cert.Owned.wp_load_own 𝒱₀ (c : Thread nD τ) none (m := w1M) (X := w1in m ρ c) (w1b m ρ c) (fun _ => rfl)) $$ Hw1
  iintro Hw1
  iapply (Cert.Owned.wp_load_own 𝒱₀ (c : Thread nD τ) none (m := w2M) (X := w2in m ρ c) (w2b m ρ c) (fun _ => rfl)) $$ Hw2
  iintro Hw2
  icases Hsb with ⟨%XHsb, Hsb⟩
  iapply (Cert.Owned.wp_load_part 𝒱₀ (c : Thread nD τ) none (m := sbM) (r := rk 0) (fun _ => rfl) (X := XHsb)) $$ Hsb
  iintro Hsb
  iapply (Cert.Owned.wp_store_part 𝒱₀ (c : Thread nD τ) none (m := sbM) (r := rk 0) (fun _ => rfl) XHsb) $$ Hsb
  iintro Hsb
  ihave Hsb := (show (owns (c : Thread nD τ) (chM sbM 0) fullShare (k0_pay10 (e0 c) (xcv m ρ (peer c) 0) (k0_pay7 (k0_pay3 (F := F)) (asv m ρ (peer c))) (k0_pay8 (F := F)) (k0_pay9 (e0 c) (k0_pay3 (F := F)) (asv m ρ (peer c)) (xcv m ρ (peer c) 0)) (w1a m ρ c) (w2a m ρ c) (w1b m ρ c) (w2b m ρ c)) : sProp 𝕄) ⊢ owns (c : Thread nD τ) (chM sbM 0) fullShare (sbv m ρ c 0) from .rfl) $$ Hsb
  rw [wp_ret]; imodintro
  iapply Hk
  isplitl [Hw1]; · iexact Hw1
  isplitl [Hw2]; · iexact Hw2
  iexact Hsb

/-- The first chunk goes back; the second comes in. -/
theorem part7_spec {v2 v5 v9 : BitVec 32} {v201 : BitVec 32} {Q : (Σ' (v220 : Vec F S128x512 .bf16) (v221 : FVec F S128x1 .f32) (v222 : FVec F S128x512 .f32) (v234 : FVec F S128x1024 .f32), FVec F S128x1024 .f32) → sProp (MT nD τ sig Unit (Elt F) ℕ UU ℕ)} :
    iprop(ctx m ρ K
        ∗ owesE c (debt c [5, 6, 7, 8])
        ∗ pay c 5
        ∗ owns (c : Thread nD τ) (chM sbM 0) fullShare (sbv m ρ c 0)
        ∗ someOwn (peer c) (chM rbM 0) fullShare
        ∗ rcv c 2
        ∗ owns (c : Thread nD τ) w1M fullShare (w1in m ρ c))
      ⊢ iprop(((owesE c (debt c [6, 7, 8])
            ∗ snt c 5
            ∗ semVal (dC c (rI 2)) 0
            ∗ owns (c : Thread nD τ) (chM xbM 1) fullShare (xcv m ρ (peer c) 1)
            ∗ owns (c : Thread nD τ) w1M fullShare (w1in m ρ c)) -∗ Q ⟨xcv m ρ (peer c) 1, k0_pay11 (pcol m ρ c), k0_pay12 (F := F), k0_pay13 (e0 c) (pcol m ρ c) (xcv m ρ (peer c) 1) (w1a m ρ c), k0_pay14 (F := F)⟩)
          -∗ wp frame (wpE (defs₀ (F := F)) 𝒱₀ (c : Thread nD τ) none) Set.univ (k0_part7 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v9 (e0 c) (pcol m ρ c) v201) Q) := by
  rw [k0_part7_eq_skeleton]; unfold k0_part7_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp5, Hsb, Hd, Hr2, Hw1⟩ Hk
  unfold someOwn
  icases Hd with ⟨%XHd, Hd⟩
  iapply (wp_send m ρ K c 5 [6, 7, 8] _ (dev7_eq c) (q := fullShare) (src := (chM sbM 0)) (dst := (chM rbM 0)) (sbv m ρ c 0) XHd (by rfl)
      (some_intro c _) (by unfold recvPay; rw [peer_peer])) $$ [Hp5 Hsb Hd HO]
  · isplitr; · iexact HK
    isplitl [Hp5]; · iexact Hp5
    isplitl [Hsb]; · iexact Hsb
    isplitl [Hd]; · iexact Hd
    iexact HO
  iintro ⟨Hn5, HO⟩
  iapply (wp_recv m ρ K c 2 [6, 7, 8] (owns (c : Thread nD τ) (chM xbM 1) fullShare (xcv m ρ (peer c) 1)) (dst := (chM xbM 1)) rfl (by rfl) (by decide)) $$ [Hr2 HO]
  · isplitr; · iexact HK
    isplitl [Hr2]; · iexact Hr2
    iexact HO
  iintro ⟨HO, Hz2, Hb2⟩
  iapply (Cert.Owned.wp_load_part 𝒱₀ (c : Thread nD τ) none (m := xbM) (r := rk 1) (fun _ => rfl) (X := xcv m ρ (peer c) 1)) $$ Hb2
  iintro Hb2
  iapply (Cert.Owned.wp_load_own 𝒱₀ (c : Thread nD τ) none (m := w1M) (X := w1in m ρ c) (w1a m ρ c) (fun _ => rfl)) $$ Hw1
  iintro Hw1
  rw [wp_ret]; imodintro
  iapply Hk
  isplitl [HO]; · iexact HO
  isplitl [Hn5]; · iexact Hn5
  isplitl [Hz2]; · iexact Hz2
  isplitl [Hb2]; · iexact Hb2
  iexact Hw1

/-- The second chunk goes through the two experts. -/
theorem part8_spec {v2 v5 v9 : BitVec 32} {Q : PUnit → sProp (MT nD τ sig Unit (Elt F) ℕ UU ℕ)} :
    iprop(ctx m ρ K
        ∗ owns (c : Thread nD τ) w1M fullShare (w1in m ρ c)
        ∗ owns (c : Thread nD τ) w2M fullShare (w2in m ρ c)
        ∗ someOwn c (chM sbM 1) fullShare)
      ⊢ iprop(((owns (c : Thread nD τ) w1M fullShare (w1in m ρ c)
            ∗ owns (c : Thread nD τ) w2M fullShare (w2in m ρ c)
            ∗ owns (c : Thread nD τ) (chM sbM 1) fullShare (sbv m ρ c 1)) -∗ Q ⟨⟩)
          -∗ wp frame (wpE (defs₀ (F := F)) 𝒱₀ (c : Thread nD τ) none) Set.univ (k0_part8 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 v9 (e0 c) (xcv m ρ (peer c) 1) (k0_pay11 (pcol m ρ c)) (k0_pay12 (F := F)) (k0_pay13 (e0 c) (pcol m ρ c) (xcv m ρ (peer c) 1) (w1a m ρ c)) (k0_pay14 (F := F))) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HK, Hw1, Hw2, Hsb⟩ Hk
  unfold someOwn
  iapply (Cert.Owned.wp_load_own 𝒱₀ (c : Thread nD τ) none (m := w2M) (X := w2in m ρ c) (w2a m ρ c) (fun _ => rfl)) $$ Hw2
  iintro Hw2
  iapply (Cert.Owned.wp_load_own 𝒱₀ (c : Thread nD τ) none (m := w1M) (X := w1in m ρ c) (w1b m ρ c) (fun _ => rfl)) $$ Hw1
  iintro Hw1
  iapply (Cert.Owned.wp_load_own 𝒱₀ (c : Thread nD τ) none (m := w2M) (X := w2in m ρ c) (w2b m ρ c) (fun _ => rfl)) $$ Hw2
  iintro Hw2
  icases Hsb with ⟨%XHsb, Hsb⟩
  iapply (Cert.Owned.wp_load_part 𝒱₀ (c : Thread nD τ) none (m := sbM) (r := rk 1) (fun _ => rfl) (X := XHsb)) $$ Hsb
  iintro Hsb
  iapply (Cert.Owned.wp_store_part 𝒱₀ (c : Thread nD τ) none (m := sbM) (r := rk 1) (fun _ => rfl) XHsb) $$ Hsb
  iintro Hsb
  ihave Hsb := (show (owns (c : Thread nD τ) (chM sbM 1) fullShare (k0_pay15 (e0 c) (xcv m ρ (peer c) 1) (k0_pay11 (pcol m ρ c)) (k0_pay12 (F := F)) (k0_pay13 (e0 c) (pcol m ρ c) (xcv m ρ (peer c) 1) (w1a m ρ c)) (k0_pay14 (F := F)) (w2a m ρ c) (w1b m ρ c) (w2b m ρ c)) : sProp 𝕄) ⊢ owns (c : Thread nD τ) (chM sbM 1) fullShare (sbv m ρ c 1) from .rfl) $$ Hsb
  rw [wp_ret]; imodintro
  iapply Hk
  isplitl [Hw1]; · iexact Hw1
  isplitl [Hw2]; · iexact Hw2
  iexact Hsb

end Cert.Moe.KernelIdeal

end
-- ==== Proof.Moe.KernelIdeal.PartD.lean ====
/-
The partner's last two chunks come in, go through the two experts, and go back.
-/
module

public import proofs.«01_k».proof.Proof.Moe.KernelIdeal.PartC

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

/-- The second chunk goes back; the third comes in. -/
theorem part9_spec {v2 v5 v9 : BitVec 32} {Q : (Σ' (v285 : Vec F S128x512 .bf16) (v286 : FVec F S128x1 .f32) (v287 : FVec F S128x512 .f32) (v301 : FVec F S128x1024 .f32) (v303 : FVec F S1024x512 .f32), FVec F S128x512 .f32) → sProp (MT nD τ sig Unit (Elt F) ℕ UU ℕ)} :
    iprop(ctx m ρ K
        ∗ owesE c (debt c [6, 7, 8])
        ∗ pay c 6
        ∗ owns (c : Thread nD τ) (chM sbM 1) fullShare (sbv m ρ c 1)
        ∗ someOwn (peer c) (chM rbM 1) fullShare
        ∗ rcv c 3
        ∗ owns (c : Thread nD τ) w1M fullShare (w1in m ρ c)
        ∗ owns (c : Thread nD τ) w2M fullShare (w2in m ρ c))
      ⊢ iprop(((owesE c (debt c [7, 8])
            ∗ snt c 6
            ∗ semVal (dC c (rI 3)) 0
            ∗ owns (c : Thread nD τ) (chM xbM 2) fullShare (xcv m ρ (peer c) 2)
            ∗ owns (c : Thread nD τ) w1M fullShare (w1in m ρ c)
            ∗ owns (c : Thread nD τ) w2M fullShare (w2in m ρ c)) -∗ Q ⟨xcv m ρ (peer c) 2, k0_pay16 (pcol m ρ c), k0_pay17 (F := F), k0_pay18 (e0 c) (pcol m ρ c) (xcv m ρ (peer c) 2) (w1a m ρ c), k0_pay19 (w2a m ρ c), constant S128x512 .f32 0x00000000#32⟩)
          -∗ wp frame (wpE (defs₀ (F := F)) 𝒱₀ (c : Thread nD τ) none) Set.univ (k0_part9 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v9 (e0 c) (pcol m ρ c)) Q) := by
  rw [k0_part9_eq_skeleton]; unfold k0_part9_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp6, Hsb, Hd, Hr3, Hw1, Hw2⟩ Hk
  unfold someOwn
  icases Hd with ⟨%XHd, Hd⟩
  iapply (wp_send m ρ K c 6 [7, 8] _ (dev8_eq c) (q := fullShare) (src := (chM sbM 1)) (dst := (chM rbM 1)) (sbv m ρ c 1) XHd (by rfl)
      (some_intro c _) (by unfold recvPay; rw [peer_peer])) $$ [Hp6 Hsb Hd HO]
  · isplitr; · iexact HK
    isplitl [Hp6]; · iexact Hp6
    isplitl [Hsb]; · iexact Hsb
    isplitl [Hd]; · iexact Hd
    iexact HO
  iintro ⟨Hn6, HO⟩
  iapply (wp_recv m ρ K c 3 [7, 8] (owns (c : Thread nD τ) (chM xbM 2) fullShare (xcv m ρ (peer c) 2)) (dst := (chM xbM 2)) rfl (by rfl) (by decide)) $$ [Hr3 HO]
  · isplitr; · iexact HK
    isplitl [Hr3]; · iexact Hr3
    iexact HO
  iintro ⟨HO, Hz3, Hb3⟩
  iapply (Cert.Owned.wp_load_part 𝒱₀ (c : Thread nD τ) none (m := xbM) (r := rk 2) (fun _ => rfl) (X := xcv m ρ (peer c) 2)) $$ Hb3
  iintro Hb3
  iapply (Cert.Owned.wp_load_own 𝒱₀ (c : Thread nD τ) none (m := w1M) (X := w1in m ρ c) (w1a m ρ c) (fun _ => rfl)) $$ Hw1
  iintro Hw1
  iapply (Cert.Owned.wp_load_own 𝒱₀ (c : Thread nD τ) none (m := w2M) (X := w2in m ρ c) (w2a m ρ c) (fun _ => rfl)) $$ Hw2
  iintro Hw2
  rw [wp_ret]; imodintro
  iapply Hk
  isplitl [HO]; · iexact HO
  isplitl [Hn6]; · iexact Hn6
  isplitl [Hz3]; · iexact Hz3
  isplitl [Hb3]; · iexact Hb3
  isplitl [Hw1]; · iexact Hw1
  iexact Hw2

/-- The third chunk goes through the two experts and back. -/
theorem part10_spec {v2 v5 v9 : BitVec 32} {Q : PUnit → sProp (MT nD τ sig Unit (Elt F) ℕ UU ℕ)} :
    iprop(ctx m ρ K
        ∗ owesE c (debt c [7, 8])
        ∗ pay c 7
        ∗ someOwn c (chM sbM 2) fullShare
        ∗ someOwn (peer c) (chM rbM 2) fullShare
        ∗ owns (c : Thread nD τ) w1M fullShare (w1in m ρ c)
        ∗ owns (c : Thread nD τ) w2M fullShare (w2in m ρ c))
      ⊢ iprop(((owesE c (debt c [8])
            ∗ snt c 7
            ∗ owns (c : Thread nD τ) w1M fullShare (w1in m ρ c)
            ∗ owns (c : Thread nD τ) w2M fullShare (w2in m ρ c)) -∗ Q ⟨⟩)
          -∗ wp frame (wpE (defs₀ (F := F)) 𝒱₀ (c : Thread nD τ) none) Set.univ (k0_part10 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v9 (e0 c) (xcv m ρ (peer c) 2) (k0_pay16 (pcol m ρ c)) (k0_pay17 (F := F)) (k0_pay18 (e0 c) (pcol m ρ c) (xcv m ρ (peer c) 2) (w1a m ρ c)) (k0_pay19 (w2a m ρ c)) (constant S128x512 .f32 0x00000000#32)) Q) := by
  rw [k0_part10_eq_skeleton]; unfold k0_part10_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp7, Hsb, Hd, Hw1, Hw2⟩ Hk
  unfold someOwn
  icases Hd with ⟨%XHd, Hd⟩
  iapply (Cert.Owned.wp_load_own 𝒱₀ (c : Thread nD τ) none (m := w1M) (X := w1in m ρ c) (w1b m ρ c) (fun _ => rfl)) $$ Hw1
  iintro Hw1
  iapply (Cert.Owned.wp_load_own 𝒱₀ (c : Thread nD τ) none (m := w2M) (X := w2in m ρ c) (w2b m ρ c) (fun _ => rfl)) $$ Hw2
  iintro Hw2
  icases Hsb with ⟨%XHsb, Hsb⟩
  iapply (Cert.Owned.wp_load_part 𝒱₀ (c : Thread nD τ) none (m := sbM) (r := rk 2) (fun _ => rfl) (X := XHsb)) $$ Hsb
  iintro Hsb
  iapply (Cert.Owned.wp_store_part 𝒱₀ (c : Thread nD τ) none (m := sbM) (r := rk 2) (fun _ => rfl) XHsb) $$ Hsb
  iintro Hsb
  ihave Hsb := (show (owns (c : Thread nD τ) (chM sbM 2) fullShare (k0_pay20 (e0 c) (xcv m ρ (peer c) 2) (k0_pay16 (pcol m ρ c)) (k0_pay17 (F := F)) (k0_pay18 (e0 c) (pcol m ρ c) (xcv m ρ (peer c) 2) (w1a m ρ c)) (k0_pay19 (w2a m ρ c)) (constant S128x512 .f32 0x00000000#32) (w1b m ρ c) (w2b m ρ c)) : sProp 𝕄) ⊢ owns (c : Thread nD τ) (chM sbM 2) fullShare (sbv m ρ c 2) from .rfl) $$ Hsb
  iapply (wp_send m ρ K c 7 [8] _ (dev9_eq c) (q := fullShare) (src := (chM sbM 2)) (dst := (chM rbM 2)) (sbv m ρ c 2) XHd (by rfl)
      (some_intro c _) (by unfold recvPay; rw [peer_peer])) $$ [Hp7 Hsb Hd HO]
  · isplitr; · iexact HK
    isplitl [Hp7]; · iexact Hp7
    isplitl [Hsb]; · iexact Hsb
    isplitl [Hd]; · iexact Hd
    iexact HO
  iintro ⟨Hn7, HO⟩
  rw [wp_ret]; imodintro
  iapply Hk
  isplitl [HO]; · iexact HO
  isplitl [Hn7]; · iexact Hn7
  isplitl [Hw1]; · iexact Hw1
  iexact Hw2

/-- The fourth chunk comes in and goes through the first expert. -/
theorem part11_spec {v2 v5 v9 : BitVec 32} {Q : (Σ' (v350 : Vec F S128x512 .bf16) (v370 : FVec F S128x512 .f32), IVec S128x1 1) → sProp (MT nD τ sig Unit (Elt F) ℕ UU ℕ)} :
    iprop(ctx m ρ K
        ∗ owesE c (debt c [8])
        ∗ rcv c 4
        ∗ owns (c : Thread nD τ) w1M fullShare (w1in m ρ c)
        ∗ owns (c : Thread nD τ) w2M fullShare (w2in m ρ c))
      ⊢ iprop(((owesE c (debt c [8])
            ∗ semVal (dC c (rI 4)) 0
            ∗ owns (c : Thread nD τ) (chM xbM 3) fullShare (xcv m ρ (peer c) 3)
            ∗ owns (c : Thread nD τ) w1M fullShare (w1in m ρ c)
            ∗ owns (c : Thread nD τ) w2M fullShare (w2in m ρ c)) -∗ Q ⟨xcv m ρ (peer c) 3, k0_pay22 (e0 c) (pcol m ρ c) (xcv m ρ (peer c) 3) (w1a m ρ c) (w2a m ρ c), k0_pay23 (e0 c) (pcol m ρ c)⟩)
          -∗ wp frame (wpE (defs₀ (F := F)) 𝒱₀ (c : Thread nD τ) none) Set.univ (k0_part11 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 v9 (e0 c) (pcol m ρ c)) Q) := by
  rw [k0_part11_eq_skeleton]; unfold k0_part11_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hr4, Hw1, Hw2⟩ Hk
  iapply (wp_recv m ρ K c 4 [8] (owns (c : Thread nD τ) (chM xbM 3) fullShare (xcv m ρ (peer c) 3)) (dst := (chM xbM 3)) rfl (by rfl) (by decide)) $$ [Hr4 HO]
  · isplitr; · iexact HK
    isplitl [Hr4]; · iexact Hr4
    iexact HO
  iintro ⟨HO, Hz4, Hb4⟩
  iapply (Cert.Owned.wp_load_part 𝒱₀ (c : Thread nD τ) none (m := xbM) (r := rk 3) (fun _ => rfl) (X := xcv m ρ (peer c) 3)) $$ Hb4
  iintro Hb4
  iapply (Cert.Owned.wp_load_own 𝒱₀ (c : Thread nD τ) none (m := w1M) (X := w1in m ρ c) (w1a m ρ c) (fun _ => rfl)) $$ Hw1
  iintro Hw1
  iapply (Cert.Owned.wp_load_own 𝒱₀ (c : Thread nD τ) none (m := w2M) (X := w2in m ρ c) (w2a m ρ c) (fun _ => rfl)) $$ Hw2
  iintro Hw2
  rw [wp_ret]; imodintro
  iapply Hk
  isplitl [HO]; · iexact HO
  isplitl [Hz4]; · iexact Hz4
  isplitl [Hb4]; · iexact Hb4
  isplitl [Hw1]; · iexact Hw1
  iexact Hw2

/-- The fourth chunk goes through the second expert and back. -/
theorem part12_spec {v2 v5 v9 : BitVec 32} {Q : (Σ' (v406 : BitVec 32), BitVec 32) → sProp (MT nD τ sig Unit (Elt F) ℕ UU ℕ)} :
    iprop(ctx m ρ K
        ∗ owesE c (debt c [8])
        ∗ pay c 8
        ∗ someOwn c (chM sbM 3) fullShare
        ∗ someOwn (peer c) (chM rbM 3) fullShare
        ∗ owns (c : Thread nD τ) w1M fullShare (w1in m ρ c)
        ∗ owns (c : Thread nD τ) w2M fullShare (w2in m ρ c))
      ⊢ iprop(((owesE c (debt c [])
            ∗ snt c 8
            ∗ owns (c : Thread nD τ) w1M fullShare (w1in m ρ c)
            ∗ owns (c : Thread nD τ) w2M fullShare (w2in m ρ c)) -∗ Q ⟨Scalar.addi 0#32 (Scalar.muli v2 4#32), 2#32⟩)
          -∗ wp frame (wpE (defs₀ (F := F)) 𝒱₀ (c : Thread nD τ) none) Set.univ (k0_part12 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 c v2 v5 v9 (xcv m ρ (peer c) 3) (k0_pay22 (e0 c) (pcol m ρ c) (xcv m ρ (peer c) 3) (w1a m ρ c) (w2a m ρ c)) (k0_pay23 (e0 c) (pcol m ρ c))) Q) := by
  rw [k0_part12_eq_skeleton]; unfold k0_part12_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hp8, Hsb, Hd, Hw1, Hw2⟩ Hk
  unfold someOwn
  icases Hd with ⟨%XHd, Hd⟩
  iapply (Cert.Owned.wp_load_own 𝒱₀ (c : Thread nD τ) none (m := w1M) (X := w1in m ρ c) (w1b m ρ c) (fun _ => rfl)) $$ Hw1
  iintro Hw1
  iapply (Cert.Owned.wp_load_own 𝒱₀ (c : Thread nD τ) none (m := w2M) (X := w2in m ρ c) (w2b m ρ c) (fun _ => rfl)) $$ Hw2
  iintro Hw2
  icases Hsb with ⟨%XHsb, Hsb⟩
  iapply (Cert.Owned.wp_load_part 𝒱₀ (c : Thread nD τ) none (m := sbM) (r := rk 3) (fun _ => rfl) (X := XHsb)) $$ Hsb
  iintro Hsb
  iapply (Cert.Owned.wp_store_part 𝒱₀ (c : Thread nD τ) none (m := sbM) (r := rk 3) (fun _ => rfl) XHsb) $$ Hsb
  iintro Hsb
  ihave Hsb := (show (owns (c : Thread nD τ) (chM sbM 3) fullShare (k0_pay24 (xcv m ρ (peer c) 3) (k0_pay22 (e0 c) (pcol m ρ c) (xcv m ρ (peer c) 3) (w1a m ρ c) (w2a m ρ c)) (k0_pay23 (e0 c) (pcol m ρ c)) (w1b m ρ c) (w2b m ρ c)) : sProp 𝕄) ⊢ owns (c : Thread nD τ) (chM sbM 3) fullShare (sbv m ρ c 3) from .rfl) $$ Hsb
  iapply (wp_send m ρ K c 8 [] _ (dev10_eq c) (q := fullShare) (src := (chM sbM 3)) (dst := (chM rbM 3)) (sbv m ρ c 3) XHd (by rfl)
      (some_intro c _) (by unfold recvPay; rw [peer_peer])) $$ [Hp8 Hsb Hd HO]
  · isplitr; · iexact HK
    isplitl [Hp8]; · iexact Hp8
    isplitl [Hsb]; · iexact Hsb
    isplitl [Hd]; · iexact Hd
    iexact HO
  iintro ⟨Hn8, HO⟩
  rw [wp_ret]; imodintro
  iapply Hk
  isplitl [HO]; · iexact HO
  isplitl [Hn8]; · iexact Hn8
  isplitl [Hw1]; · iexact Hw1
  iexact Hw2

end Cert.Moe.KernelIdeal

end
-- ==== Proof.Moe.KernelIdeal.PartE.lean ====
/-
The partner's contributions come back and are added; the sends complete.
-/
module

public import proofs.«01_k».proof.Proof.Moe.KernelIdeal.PartD

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

/-- Two of the partner's contributions come back and are added to the device's own. -/
theorem part13_spec {v2 v5 v9 : BitVec 32} {v406 c2 : BitVec 32} {Q : (Σ' (v435 : BitVec 32), BitVec 32) → sProp (MT nD τ sig Unit (Elt F) ℕ UU ℕ)} :
    iprop(ctx m ρ K
        ∗ owesE c (debt c [])
        ∗ rcv c 5
        ∗ someOwn c (chM oM 0) fullShare
        ∗ rcv c 6
        ∗ someOwn c (chM oM 1) fullShare)
      ⊢ iprop(((owesE c (debt c [])
            ∗ semVal (dC c (rI 5)) 0
            ∗ owns (c : Thread nD τ) (chM rbM 0) fullShare (sbv m ρ (peer c) 0)
            ∗ owns (c : Thread nD τ) (chM oM 0) fullShare (outc m ρ c 0)
            ∗ semVal (dC c (rI 6)) 0
            ∗ owns (c : Thread nD τ) (chM rbM 1) fullShare (sbv m ρ (peer c) 1)
            ∗ owns (c : Thread nD τ) (chM oM 1) fullShare (outc m ρ c 1)) -∗ Q ⟨Scalar.muli v2 4#32, 0#32⟩)
          -∗ wp frame (wpE (defs₀ (F := F)) 𝒱₀ (c : Thread nD τ) none) Set.univ (k0_part13 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 v9 (acc m ρ c) v406 c2) Q) := by
  rw [k0_part13_eq_skeleton]; unfold k0_part13_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hr5, Ho0, Hr6, Ho1⟩ Hk
  unfold someOwn
  iapply (wp_recv m ρ K c 5 [] (owns (c : Thread nD τ) (chM rbM 0) fullShare (sbv m ρ (peer c) 0)) (dst := (chM rbM 0)) rfl (by rfl) (by decide)) $$ [Hr5 HO]
  · isplitr; · iexact HK
    isplitl [Hr5]; · iexact Hr5
    iexact HO
  iintro ⟨HO, Hz5, Hb5⟩
  iapply (Cert.Owned.wp_load_part 𝒱₀ (c : Thread nD τ) none (m := rbM) (r := rk 0) (fun _ => rfl) (X := sbv m ρ (peer c) 0)) $$ Hb5
  iintro Hb5
  icases Ho0 with ⟨%XHo0, Ho0⟩
  iapply (Cert.Owned.wp_load_part 𝒱₀ (c : Thread nD τ) none (m := oM) (r := rk 0) (fun _ => rfl) (X := XHo0)) $$ Ho0
  iintro Ho0
  iapply (Cert.Owned.wp_store_part 𝒱₀ (c : Thread nD τ) none (m := oM) (r := rk 0) (fun _ => rfl) XHo0) $$ Ho0
  iintro Ho0
  ihave Ho0 := (show (owns (c : Thread nD τ) (chM oM 0) fullShare (k0_pay25 (acc m ρ c) (sbv m ρ (peer c) 0)) : sProp 𝕄) ⊢ owns (c : Thread nD τ) (chM oM 0) fullShare (outc m ρ c 0) from .rfl) $$ Ho0
  iapply (wp_recv m ρ K c 6 [] (owns (c : Thread nD τ) (chM rbM 1) fullShare (sbv m ρ (peer c) 1)) (dst := (chM rbM 1)) rfl (by rfl) (by decide)) $$ [Hr6 HO]
  · isplitr; · iexact HK
    isplitl [Hr6]; · iexact Hr6
    iexact HO
  iintro ⟨HO, Hz6, Hb6⟩
  iapply (Cert.Owned.wp_load_part 𝒱₀ (c : Thread nD τ) none (m := rbM) (r := rk 1) (fun _ => rfl) (X := sbv m ρ (peer c) 1)) $$ Hb6
  iintro Hb6
  icases Ho1 with ⟨%XHo1, Ho1⟩
  iapply (Cert.Owned.wp_load_part 𝒱₀ (c : Thread nD τ) none (m := oM) (r := rk 1) (fun _ => rfl) (X := XHo1)) $$ Ho1
  iintro Ho1
  iapply (Cert.Owned.wp_store_part 𝒱₀ (c : Thread nD τ) none (m := oM) (r := rk 1) (fun _ => rfl) XHo1) $$ Ho1
  iintro Ho1
  ihave Ho1 := (show (owns (c : Thread nD τ) (chM oM 1) fullShare (k0_pay26 (acc m ρ c) (sbv m ρ (peer c) 1)) : sProp 𝕄) ⊢ owns (c : Thread nD τ) (chM oM 1) fullShare (outc m ρ c 1) from .rfl) $$ Ho1
  rw [wp_ret]; imodintro
  iapply Hk
  isplitl [HO]; · iexact HO
  isplitl [Hz5]; · iexact Hz5
  isplitl [Hb5]; · iexact Hb5
  isplitl [Ho0]; · iexact Ho0
  isplitl [Hz6]; · iexact Hz6
  isplitl [Hb6]; · iexact Hb6
  iexact Ho1

/-- Two of the partner's contributions come back and are added to the device's own. -/
theorem part14_spec {v2 v5 v9 : BitVec 32} {v435 c0 : BitVec 32} {Q : PUnit → sProp (MT nD τ sig Unit (Elt F) ℕ UU ℕ)} :
    iprop(ctx m ρ K
        ∗ owesE c (debt c [])
        ∗ rcv c 7
        ∗ someOwn c (chM oM 2) fullShare
        ∗ rcv c 8
        ∗ someOwn c (chM oM 3) fullShare)
      ⊢ iprop(((owesE c (debt c [])
            ∗ semVal (dC c (rI 7)) 0
            ∗ owns (c : Thread nD τ) (chM rbM 2) fullShare (sbv m ρ (peer c) 2)
            ∗ owns (c : Thread nD τ) (chM oM 2) fullShare (outc m ρ c 2)
            ∗ semVal (dC c (rI 8)) 0
            ∗ owns (c : Thread nD τ) (chM rbM 3) fullShare (sbv m ρ (peer c) 3)
            ∗ owns (c : Thread nD τ) (chM oM 3) fullShare (outc m ρ c 3)) -∗ Q ⟨⟩)
          -∗ wp frame (wpE (defs₀ (F := F)) 𝒱₀ (c : Thread nD τ) none) Set.univ (k0_part14 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9 v2 v5 v9 (acc m ρ c) v435 c0) Q) := by
  rw [k0_part14_eq_skeleton]; unfold k0_part14_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hr7, Ho2, Hr8, Ho3⟩ Hk
  unfold someOwn
  iapply (wp_recv m ρ K c 7 [] (owns (c : Thread nD τ) (chM rbM 2) fullShare (sbv m ρ (peer c) 2)) (dst := (chM rbM 2)) rfl (by rfl) (by decide)) $$ [Hr7 HO]
  · isplitr; · iexact HK
    isplitl [Hr7]; · iexact Hr7
    iexact HO
  iintro ⟨HO, Hz7, Hb7⟩
  iapply (Cert.Owned.wp_load_part 𝒱₀ (c : Thread nD τ) none (m := rbM) (r := rk 2) (fun _ => rfl) (X := sbv m ρ (peer c) 2)) $$ Hb7
  iintro Hb7
  icases Ho2 with ⟨%XHo2, Ho2⟩
  iapply (Cert.Owned.wp_load_part 𝒱₀ (c : Thread nD τ) none (m := oM) (r := rk 2) (fun _ => rfl) (X := XHo2)) $$ Ho2
  iintro Ho2
  iapply (Cert.Owned.wp_store_part 𝒱₀ (c : Thread nD τ) none (m := oM) (r := rk 2) (fun _ => rfl) XHo2) $$ Ho2
  iintro Ho2
  ihave Ho2 := (show (owns (c : Thread nD τ) (chM oM 2) fullShare (k0_pay27 (acc m ρ c) (sbv m ρ (peer c) 2)) : sProp 𝕄) ⊢ owns (c : Thread nD τ) (chM oM 2) fullShare (outc m ρ c 2) from .rfl) $$ Ho2
  iapply (wp_recv m ρ K c 8 [] (owns (c : Thread nD τ) (chM rbM 3) fullShare (sbv m ρ (peer c) 3)) (dst := (chM rbM 3)) rfl (by rfl) (by decide)) $$ [Hr8 HO]
  · isplitr; · iexact HK
    isplitl [Hr8]; · iexact Hr8
    iexact HO
  iintro ⟨HO, Hz8, Hb8⟩
  iapply (Cert.Owned.wp_load_part 𝒱₀ (c : Thread nD τ) none (m := rbM) (r := rk 3) (fun _ => rfl) (X := sbv m ρ (peer c) 3)) $$ Hb8
  iintro Hb8
  icases Ho3 with ⟨%XHo3, Ho3⟩
  iapply (Cert.Owned.wp_load_part 𝒱₀ (c : Thread nD τ) none (m := oM) (r := rk 3) (fun _ => rfl) (X := XHo3)) $$ Ho3
  iintro Ho3
  iapply (Cert.Owned.wp_store_part 𝒱₀ (c : Thread nD τ) none (m := oM) (r := rk 3) (fun _ => rfl) XHo3) $$ Ho3
  iintro Ho3
  ihave Ho3 := (show (owns (c : Thread nD τ) (chM oM 3) fullShare (k0_pay28 (acc m ρ c) (sbv m ρ (peer c) 3)) : sProp 𝕄) ⊢ owns (c : Thread nD τ) (chM oM 3) fullShare (outc m ρ c 3) from .rfl) $$ Ho3
  rw [wp_ret]; imodintro
  iapply Hk
  isplitl [HO]; · iexact HO
  isplitl [Hz7]; · iexact Hz7
  isplitl [Hb7]; · iexact Hb7
  isplitl [Ho2]; · iexact Ho2
  isplitl [Hz8]; · iexact Hz8
  isplitl [Hb8]; · iexact Hb8
  iexact Ho3

/-- The first five sends complete: every lent half is back. -/
theorem part15_spec {Q : PUnit → sProp (MT nD τ sig Unit (Elt F) ℕ UU ℕ)} :
    iprop(ctx m ρ K
        ∗ owesE c (debt c [])
        ∗ snt c 0
        ∗ snt c 1
        ∗ snt c 2
        ∗ snt c 3
        ∗ snt c 4)
      ⊢ iprop(((owesE c (debt c [])
            ∗ semVal (dC c (sI 0)) 0
            ∗ someOwn c asM fullShare.left
            ∗ semVal (dC c (sI 1)) 0
            ∗ someOwn c (chM xsM 0) fullShare.left
            ∗ semVal (dC c (sI 2)) 0
            ∗ someOwn c (chM xsM 1) fullShare.left
            ∗ semVal (dC c (sI 3)) 0
            ∗ someOwn c (chM xsM 2) fullShare.left
            ∗ semVal (dC c (sI 4)) 0
            ∗ someOwn c (chM xsM 3) fullShare.left) -∗ Q ⟨⟩)
          -∗ wp frame (wpE (defs₀ (F := F)) 𝒱₀ (c : Thread nD τ) none) Set.univ (k0_part15 xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9) Q) := by
  rw [k0_part15_eq_skeleton]; unfold k0_part15_skel
  simp only [semSignalWord, semWaitWord, Prog.lift, Prog.bind_op, Prog.bind_ret, Prog.pure_eq_ret, Prog.bind_assoc, wp_deviceId]
  simp only [sliceL, sliceS0, sliceS1, sliceS2, sliceS3, sliceS4, sliceS5, sliceS6, sliceS7, sliceS8, sliceR0, sliceR1, sliceR2, sliceR3, sliceR4, sliceR5, sliceR6, sliceR7, sliceR8]
  iintro ⟨#HK, HO, Hn0, Hn1, Hn2, Hn3, Hn4⟩ Hk
  iapply (wp_sent m ρ K c 0 (someOwn c asM fullShare.left) (dst := asM) rfl (by rfl)) $$ [Hn0 HO]
  · isplitr; · iexact HK
    isplitl [Hn0]; · iexact Hn0
    iexact HO
  iintro ⟨HO, Hz0, Hb0⟩
  iapply (wp_sent m ρ K c 1 (someOwn c (chM xsM 0) fullShare.left) (dst := (chM xsM 0)) rfl (by rfl)) $$ [Hn1 HO]
  · isplitr; · iexact HK
    isplitl [Hn1]; · iexact Hn1
    iexact HO
  iintro ⟨HO, Hz1, Hb1⟩
  iapply (wp_sent m ρ K c 2 (someOwn c (chM xsM 1) fullShare.left) (dst := (chM xsM 1)) rfl (by rfl)) $$ [Hn2 HO]
  · isplitr; · iexact HK
    isplitl [Hn2]; · iexact Hn2
    iexact HO
  iintro ⟨HO, Hz2, Hb2⟩
  iapply (wp_sent m ρ K c 3 (someOwn c (chM xsM 2) fullShare.left) (dst := (chM xsM 2)) rfl (by rfl)) $$ [Hn3 HO]
  · isplitr; · iexact HK
    isplitl [Hn3]; · iexact Hn3
    iexact HO
  iintro ⟨HO, Hz3, Hb3⟩
  iapply (wp_sent m ρ K c 4 (someOwn c (chM xsM 3) fullShare.left) (dst := (chM xsM 3)) rfl (by rfl)) $$ [Hn4 HO]
  · isplitr; · iexact HK
    isplitl [Hn4]; · iexact Hn4
    iexact HO
  iintro ⟨HO, Hz4, Hb4⟩
  rw [wp_ret]; imodintro
  iapply Hk
  isplitl [HO]; · iexact HO
  isplitl [Hz0]; · iexact Hz0
  isplitl [Hb0]; · iexact Hb0
  isplitl [Hz1]; · iexact Hz1
  isplitl [Hb1]; · iexact Hb1
  isplitl [Hz2]; · iexact Hz2
  isplitl [Hb2]; · iexact Hb2
  isplitl [Hz3]; · iexact Hz3
  isplitl [Hb3]; · iexact Hb3
  isplitl [Hz4]; · iexact Hz4
  iexact Hb4

end Cert.Moe.KernelIdeal

end
-- ==== Proof.Moe.KernelIdeal.Body.lean ====
/-
The body of the kernel on one device, from its parts, and what the pipeline asks of it.
-/
module

public import proofs.«01_k».proof.Proof.Moe.KernelIdeal.PartE

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 20 → ℕ) (c : Dev nD)

/-! ## What a device holds at launch, before the body and after -/

/-- The duties device `c` pays and its places in its own semaphores' rounds. -/
def linear : sProp 𝕄 :=
  iprop(dutyTok EX (barC (peer c)) 0 () ∗ atPos EX (barC c) 0 ∅ 0 ∗ dutyTok EX (dC c 0) 0 () ∗ atPos EX (dC c 0) 0 ∅ 0
    ∗ (bigSep Finset.univ fun j : Fin 9 => pay c j) ∗ bigSep Finset.univ fun j : Fin 9 => atPos EX (dC c (rI j)) 0 ∅ 0)

/-- The credits of the barrier and of the nine receives. -/
def credits : sProp 𝕄 :=
  iprop(cred (tallyAt (barC c) () 1) ∗ bigSep Finset.univ fun j : Fin 9 => cred (tallyAt (dC c (rI j)) () (amt (rI j))))

def start : sProp 𝕄 := iprop((∃ K, ctx m ρ K ∗ linear c) ∗ credits c ∗ owns (c : Thread nD τ) xM fullShare (xin m ρ c))

/-- The scratch buffers, at whatever they hold. -/
def scratch : sProp 𝕄 :=
  iprop(someOwn c xvM fullShare ∗ someOwn c asM fullShare ∗ someOwn c xsM fullShare ∗ someOwn c xbM fullShare ∗ someOwn c abM fullShare ∗ someOwn c sbM fullShare ∗ someOwn c rbM fullShare)

def Φ₀ : sProp 𝕄 := iprop(start m ρ c ∗ scratch c)
def Φ₁ : sProp 𝕄 :=
  iprop((semVal (barC c) 0 ∗ owns (c : Thread nD τ) xM fullShare (xin m ρ c)) ∗ (bigSep Finset.univ fun i : Fin 19 => semVal (dC c i) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ain m ρ c
    | ⟨1, _⟩ => w1in m ρ c
    | ⟨2, _⟩ => w2in m ρ c
    | ⟨3, _⟩ => outv m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_nineteen (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

/-! ## The body -/

set_option maxHeartbeats 1600000 in
/-- The body run from what the device holds at launch to its result and every semaphore at zero. -/
theorem sound_body {Kt : PUnit → sProp (MT nD τ sig Unit (Elt F) ℕ UU ℕ)} :
    iprop((ctx m ρ K ∗ linear c)
        ∗ (credits c)
        ∗ (owns (c : Thread nD τ) xM fullShare (xin m ρ c))
        ∗ (scratch c)
        ∗ (owesE c (O₀ c))
        ∗ (owns (c : Thread nD τ) aM fullShare (ain m ρ c))
        ∗ (owns (c : Thread nD τ) w1M fullShare (w1in m ρ c))
        ∗ (owns (c : Thread nD τ) w2M fullShare (w2in m ρ c))
        ∗ (someOwn c oM fullShare))
      ⊢ iprop(((Φ₁ m ρ c
            ∗ owesE c 0
            ∗ owns (c : Thread nD τ) aM fullShare (ain m ρ c)
            ∗ owns (c : Thread nD τ) w1M fullShare (w1in m ρ c)
            ∗ owns (c : Thread nD τ) w2M fullShare (w2in m ρ c)
            ∗ owns (c : Thread nD τ) oM fullShare (outv m ρ c)) -∗ Kt ⟨⟩)
          -∗ wp frame (wpE (defs₀ (F := F)) 𝒱₀ (c : Thread nD τ) none) Set.univ (cc0_body xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9) Kt) := by
  rw [cc0_body_eq_skeleton]; unfold cc0_body_skel
  unfold linear credits scratch
  rw [bigSep_nine, bigSep_nine, bigSep_nine]
  iintro ⟨⟨#HK, HtB, HaB, HtL, HaL, ⟨Hp0, Hp1, Hp2, Hp3, Hp4, Hp5, Hp6, Hp7, Hp8⟩, Ha0, Ha1, Ha2, Ha3, Ha4, Ha5, Ha6, Ha7, Ha8⟩, ⟨HcB, Hc0, Hc1, Hc2, Hc3, Hc4, Hc5, Hc6, Hc7, Hc8⟩, Hx, ⟨Hxv, Hsa, Hxs, Hxb, Hab, Hsb, Hrb⟩, HO, Ha, Hw1, Hw2, Hout⟩ Hk
  ihave Hxb := (some_split c xbM fullShare) $$ Hxb
  ihave Hrb := (some_split c rbM fullShare) $$ Hrb
  ihave Hsb := (some_split c sbM fullShare) $$ Hsb
  ihave Hout := (some_split c oM fullShare) $$ Hout
  icases Hsb with ⟨Hsb0, Hsb1, Hsb2, Hsb3⟩
  icases Hout with ⟨Ho0, Ho1, Ho2, Ho3⟩
  ihave Hland := (show iprop(someOwn c abM fullShare
    ∗ (someOwn c (chM xbM 0) fullShare ∗ someOwn c (chM xbM 1) fullShare ∗ someOwn c (chM xbM 2) fullShare ∗ someOwn c (chM xbM 3) fullShare)
    ∗ (someOwn c (chM rbM 0) fullShare ∗ someOwn c (chM rbM 1) fullShare ∗ someOwn c (chM rbM 2) fullShare ∗ someOwn c (chM rbM 3) fullShare)) ⊢ (landing c : sProp 𝕄) from .rfl) $$ [Hab Hxb Hrb]
  · isplitl [Hab]; · iexact Hab
    isplitl [Hxb] <;> iassumption
  ihave Hr0 := (show iprop(cred (tallyAt (dC c (rI 0)) () (amt (rI 0))) ∗ atPos EX (dC c (rI 0)) 0 ∅ 0) ⊢ (rcv c 0 : sProp 𝕄) from .rfl) $$ [Hc0 Ha0]
  · isplitl [Hc0] <;> iassumption
  ihave Hr1 := (show iprop(cred (tallyAt (dC c (rI 1)) () (amt (rI 1))) ∗ atPos EX (dC c (rI 1)) 0 ∅ 0) ⊢ (rcv c 1 : sProp 𝕄) from .rfl) $$ [Hc1 Ha1]
  · isplitl [Hc1] <;> iassumption
  ihave Hr2 := (show iprop(cred (tallyAt (dC c (rI 2)) () (amt (rI 2))) ∗ atPos EX (dC c (rI 2)) 0 ∅ 0) ⊢ (rcv c 2 : sProp 𝕄) from .rfl) $$ [Hc2 Ha2]
  · isplitl [Hc2] <;> iassumption
  ihave Hr3 := (show iprop(cred (tallyAt (dC c (rI 3)) () (amt (rI 3))) ∗ atPos EX (dC c (rI 3)) 0 ∅ 0) ⊢ (rcv c 3 : sProp 𝕄) from .rfl) $$ [Hc3 Ha3]
  · isplitl [Hc3] <;> iassumption
  ihave Hr4 := (show iprop(cred (tallyAt (dC c (rI 4)) () (amt (rI 4))) ∗ atPos EX (dC c (rI 4)) 0 ∅ 0) ⊢ (rcv c 4 : sProp 𝕄) from .rfl) $$ [Hc4 Ha4]
  · isplitl [Hc4] <;> iassumption
  ihave Hr5 := (show iprop(cred (tallyAt (dC c (rI 5)) () (amt (rI 5))) ∗ atPos EX (dC c (rI 5)) 0 ∅ 0) ⊢ (rcv c 5 : sProp 𝕄) from .rfl) $$ [Hc5 Ha5]
  · isplitl [Hc5] <;> iassumption
  ihave Hr6 := (show iprop(cred (tallyAt (dC c (rI 6)) () (amt (rI 6))) ∗ atPos EX (dC c (rI 6)) 0 ∅ 0) ⊢ (rcv c 6 : sProp 𝕄) from .rfl) $$ [Hc6 Ha6]
  · isplitl [Hc6] <;> iassumption
  ihave Hr7 := (show iprop(cred (tallyAt (dC c (rI 7)) () (amt (rI 7))) ∗ atPos EX (dC c (rI 7)) 0 ∅ 0) ⊢ (rcv c 7 : sProp 𝕄) from .rfl) $$ [Hc7 Ha7]
  · isplitl [Hc7] <;> iassumption
  ihave Hr8 := (show iprop(cred (tallyAt (dC c (rI 8)) () (amt (rI 8))) ∗ atPos EX (dC c (rI 8)) 0 ∅ 0) ⊢ (rcv c 8 : sProp 𝕄) from .rfl) $$ [Hc8 Ha8]
  · isplitl [Hc8] <;> iassumption
  rw [wp_bind]
  iapply (part1_spec m ρ K c) $$ [HO HtB Hland HcB HaB HtL HaL Hx Hxv Ha Hsa Hxs]
  · isplitr; · iexact HK
    isplitl [HO]; · iexact HO
    isplitl [HtB]; · iexact HtB
    isplitl [Hland]; · iexact Hland
    isplitl [HcB]; · iexact HcB
    isplitl [HaB]; · iexact HaB
    isplitl [HtL]; · iexact HtL
    isplitl [HaL]; · iexact HaL
    isplitl [Hx]; · iexact Hx
    isplitl [Hxv]; · iexact Hxv
    isplitl [Ha]; · iexact Ha
    isplitl [Hsa]; · iexact Hsa
    iexact Hxs
  iintro ⟨HO, HzB, HzL, Hland, Hxv, Hx, Ha, Hsa, Hxs⟩
  ihave Hland := (show (landing (peer c) : sProp 𝕄) ⊢ iprop(someOwn (peer c) abM fullShare
    ∗ (someOwn (peer c) (chM xbM 0) fullShare ∗ someOwn (peer c) (chM xbM 1) fullShare ∗ someOwn (peer c) (chM xbM 2) fullShare ∗ someOwn (peer c) (chM xbM 3) fullShare)
    ∗ (someOwn (peer c) (chM rbM 0) fullShare ∗ someOwn (peer c) (chM rbM 1) fullShare ∗ someOwn (peer c) (chM rbM 2) fullShare ∗ someOwn (peer c) (chM rbM 3) fullShare)) from .rfl) $$ Hland
  icases Hland with ⟨Hda, ⟨Hd0, Hd1, Hd2, Hd3⟩, He0, He1, He2, He3⟩
  ihave Hsa := (owns_halves (c : Thread nD τ) asM fullShare (asv m ρ c)).1 $$ Hsa
  icases Hsa with ⟨Hsal, Hsar⟩
  ihave Hxs := (owns_halves (c : Thread nD τ) xsM fullShare (xsv m ρ c)).1 $$ Hxs
  icases Hxs with ⟨Hxsl, Hxsr⟩
  ihave Hxsl := (owns_split c xsM fullShare.left (xsv m ρ c)) $$ Hxsl
  icases Hxsl with ⟨Hs0, Hs1, Hs2, Hs3⟩
  rw [wp_bind]
  iapply (part2_spec m ρ K c) $$ [HO Hp0 Hp1 Hp2 Hsal Hda Hs0 Hd0 Hs1 Hd1]
  · isplitr; · iexact HK
    isplitl [HO]; · iexact HO
    isplitl [Hp0]; · iexact Hp0
    isplitl [Hp1]; · iexact Hp1
    isplitl [Hp2]; · iexact Hp2
    isplitl [Hsal]; · iexact Hsal
    isplitl [Hda]; · iexact Hda
    isplitl [Hs0]; · iexact Hs0
    isplitl [Hd0]; · iexact Hd0
    isplitl [Hs1]; · iexact Hs1
    iexact Hd1
  iintro ⟨HO, Hn0, Hn1, Hn2⟩
  rw [wp_bind]
  iapply (part3_spec m ρ K c) $$ [HO Hp3 Hp4 Hs2 Hd2 Hs3 Hd3 Hsar]
  · isplitr; · iexact HK
    isplitl [HO]; · iexact HO
    isplitl [Hp3]; · iexact Hp3
    isplitl [Hp4]; · iexact Hp4
    isplitl [Hs2]; · iexact Hs2
    isplitl [Hd2]; · iexact Hd2
    isplitl [Hs3]; · iexact Hs3
    isplitl [Hd3]; · iexact Hd3
    iexact Hsar
  iintro ⟨HO, Hn3, Hn4, Hsar⟩
  rw [wp_bind]
  iapply (part4_spec m ρ K c) $$ [Hxsr Hw1 Hw2]
  · isplitr; · iexact HK
    isplitl [Hxsr]; · iexact Hxsr
    isplitl [Hw1]; · iexact Hw1
    iexact Hw2
  iintro ⟨Hxsr, Hw1, Hw2⟩
  rw [wp_bind]
  iapply (part5_spec m ρ K c) $$ [HO Hr0 Hr1]
  · isplitr; · iexact HK
    isplitl [HO]; · iexact HO
    isplitl [Hr0]; · iexact Hr0
    iexact Hr1
  iintro ⟨HO, Hz0, Hz1, Hab, Hxb0⟩
  rw [wp_bind]
  iapply (part6_spec m ρ K c) $$ [Hw1 Hw2 Hsb0]
  · isplitr; · iexact HK
    isplitl [Hw1]; · iexact Hw1
    isplitl [Hw2]; · iexact Hw2
    iexact Hsb0
  iintro ⟨Hw1, Hw2, Hsb0⟩
  rw [wp_bind]
  iapply (part7_spec m ρ K c) $$ [HO Hp5 Hsb0 He0 Hr2 Hw1]
  · isplitr; · iexact HK
    isplitl [HO]; · iexact HO
    isplitl [Hp5]; · iexact Hp5
    isplitl [Hsb0]; · iexact Hsb0
    isplitl [He0]; · iexact He0
    isplitl [Hr2]; · iexact Hr2
    iexact Hw1
  iintro ⟨HO, Hn5, Hz2, Hxb1, Hw1⟩
  rw [wp_bind]
  iapply (part8_spec m ρ K c) $$ [Hw1 Hw2 Hsb1]
  · isplitr; · iexact HK
    isplitl [Hw1]; · iexact Hw1
    isplitl [Hw2]; · iexact Hw2
    iexact Hsb1
  iintro ⟨Hw1, Hw2, Hsb1⟩
  rw [wp_bind]
  iapply (part9_spec m ρ K c) $$ [HO Hp6 Hsb1 He1 Hr3 Hw1 Hw2]
  · isplitr; · iexact HK
    isplitl [HO]; · iexact HO
    isplitl [Hp6]; · iexact Hp6
    isplitl [Hsb1]; · iexact Hsb1
    isplitl [He1]; · iexact He1
    isplitl [Hr3]; · iexact Hr3
    isplitl [Hw1]; · iexact Hw1
    iexact Hw2
  iintro ⟨HO, Hn6, Hz3, Hxb2, Hw1, Hw2⟩
  rw [wp_bind]
  iapply (part10_spec m ρ K c) $$ [HO Hp7 Hsb2 He2 Hw1 Hw2]
  · isplitr; · iexact HK
    isplitl [HO]; · iexact HO
    isplitl [Hp7]; · iexact Hp7
    isplitl [Hsb2]; · iexact Hsb2
    isplitl [He2]; · iexact He2
    isplitl [Hw1]; · iexact Hw1
    iexact Hw2
  iintro ⟨HO, Hn7, Hw1, Hw2⟩
  rw [wp_bind]
  iapply (part11_spec m ρ K c) $$ [HO Hr4 Hw1 Hw2]
  · isplitr; · iexact HK
    isplitl [HO]; · iexact HO
    isplitl [Hr4]; · iexact Hr4
    isplitl [Hw1]; · iexact Hw1
    iexact Hw2
  iintro ⟨HO, Hz4, Hxb3, Hw1, Hw2⟩
  rw [wp_bind]
  iapply (part12_spec m ρ K c) $$ [HO Hp8 Hsb3 He3 Hw1 Hw2]
  · isplitr; · iexact HK
    isplitl [HO]; · iexact HO
    isplitl [Hp8]; · iexact Hp8
    isplitl [Hsb3]; · iexact Hsb3
    isplitl [He3]; · iexact He3
    isplitl [Hw1]; · iexact Hw1
    iexact Hw2
  iintro ⟨HO, Hn8, Hw1, Hw2⟩
  rw [wp_bind]
  iapply (part13_spec m ρ K c) $$ [HO Hr5 Ho0 Hr6 Ho1]
  · isplitr; · iexact HK
    isplitl [HO]; · iexact HO
    isplitl [Hr5]; · iexact Hr5
    isplitl [Ho0]; · iexact Ho0
    isplitl [Hr6]; · iexact Hr6
    iexact Ho1
  iintro ⟨HO, Hz5, Hrb0, Ho0, Hz6, Hrb1, Ho1⟩
  rw [wp_bind]
  iapply (part14_spec m ρ K c) $$ [HO Hr7 Ho2 Hr8 Ho3]
  · isplitr; · iexact HK
    isplitl [HO]; · iexact HO
    isplitl [Hr7]; · iexact Hr7
    isplitl [Ho2]; · iexact Ho2
    isplitl [Hr8]; · iexact Hr8
    iexact Ho3
  iintro ⟨HO, Hz7, Hrb2, Ho2, Hz8, Hrb3, Ho3⟩
  rw [wp_bind]
  iapply (part15_spec m ρ K c) $$ [HO Hn0 Hn1 Hn2 Hn3 Hn4]
  · isplitr; · iexact HK
    isplitl [HO]; · iexact HO
    isplitl [Hn0]; · iexact Hn0
    isplitl [Hn1]; · iexact Hn1
    isplitl [Hn2]; · iexact Hn2
    isplitl [Hn3]; · iexact Hn3
    iexact Hn4
  iintro ⟨HO, Hy0, Hsal, Hy1, Hs0, Hy2, Hs1, Hy3, Hs2, Hy4, Hs3⟩
  simp only [semSignalWord, semWaitWord, Prog.lift, Prog.bind_op, Prog.bind_ret, Prog.pure_eq_ret, Prog.bind_assoc]
  simp only [sliceL, sliceS0, sliceS1, sliceS2, sliceS3, sliceS4, sliceS5, sliceS6, sliceS7, sliceS8, sliceR0, sliceR1, sliceR2, sliceR3, sliceR4, sliceR5, sliceR6, sliceR7, sliceR8]
  iapply (wp_sent m ρ K c 5 (someOwn c (chM sbM 0) fullShare) (dst := (chM sbM 0)) rfl (by rfl)) $$ [Hn5 HO]
  · isplitr; · iexact HK
    isplitl [Hn5]; · iexact Hn5
    iexact HO
  iintro ⟨HO, Hy5, Hsb0⟩
  iapply (wp_sent m ρ K c 6 (someOwn c (chM sbM 1) fullShare) (dst := (chM sbM 1)) rfl (by rfl)) $$ [Hn6 HO]
  · isplitr; · iexact HK
    isplitl [Hn6]; · iexact Hn6
    iexact HO
  iintro ⟨HO, Hy6, Hsb1⟩
  iapply (wp_sent m ρ K c 7 (someOwn c (chM sbM 2) fullShare) (dst := (chM sbM 2)) rfl (by rfl)) $$ [Hn7 HO]
  · isplitr; · iexact HK
    isplitl [Hn7]; · iexact Hn7
    iexact HO
  iintro ⟨HO, Hy7, Hsb2⟩
  iapply (wp_sent m ρ K c 8 (someOwn c (chM sbM 3) fullShare) (dst := (chM sbM 3)) rfl (by rfl)) $$ [Hn8 HO]
  · isplitr; · iexact HK
    isplitl [Hn8]; · iexact Hn8
    iexact HO
  iintro ⟨HO, Hy8, Hsb3⟩
  rw [wp_ret]; imodintro
  iapply Hk
  ihave Hsa := (some_rejoin c (asv m ρ c)) $$ [Hsal Hsar]
  · isplitl [Hsal] <;> iassumption
  ihave Hxsl := (some_join c xsM fullShare.left) $$ [Hs0 Hs1 Hs2 Hs3]
  · isplitl [Hs0]; · iexact Hs0
    isplitl [Hs1]; · iexact Hs1
    isplitl [Hs2] <;> iassumption
  ihave Hxs := (some_rejoin c (xsv m ρ c)) $$ [Hxsl Hxsr]
  · isplitl [Hxsl] <;> iassumption
  ihave Hsb := (some_join c sbM fullShare) $$ [Hsb0 Hsb1 Hsb2 Hsb3]
  · isplitl [Hsb0]; · iexact Hsb0
    isplitl [Hsb1]; · iexact Hsb1
    isplitl [Hsb2] <;> iassumption
  ihave Hxb := (owns_join c xbM fullShare (xcv m ρ (peer c))) $$ [Hxb0 Hxb1 Hxb2 Hxb3]
  · isplitl [Hxb0]; · iexact Hxb0
    isplitl [Hxb1]; · iexact Hxb1
    isplitl [Hxb2] <;> iassumption
  ihave Hrb := (owns_join c rbM fullShare (sbv m ρ (peer c))) $$ [Hrb0 Hrb1 Hrb2 Hrb3]
  · isplitl [Hrb0]; · iexact Hrb0
    isplitl [Hrb1]; · iexact Hrb1
    isplitl [Hrb2] <;> iassumption
  ihave Hout := (owns_join c oM fullShare (outc m ρ c)) $$ [Ho0 Ho1 Ho2 Ho3]
  · isplitl [Ho0]; · iexact Ho0
    isplitl [Ho1]; · iexact Ho1
    isplitl [Ho2] <;> iassumption
  unfold Φ₁ scratch
  rw [bigSep_nineteen]
  isplitl [HzB Hx HzL Hy0 Hy1 Hy2 Hy3 Hy4 Hy5 Hy6 Hy7 Hy8 Hz0 Hz1 Hz2 Hz3 Hz4 Hz5 Hz6 Hz7 Hz8 Hxv Hsa Hxs Hxb Hab Hsb Hrb]
  · isplitl [HzB Hx]; · isplitl [HzB] <;> iassumption
    isplitl [HzL Hy0 Hy1 Hy2 Hy3 Hy4 Hy5 Hy6 Hy7 Hy8 Hz0 Hz1 Hz2 Hz3 Hz4 Hz5 Hz6 Hz7 Hz8]
    · isplitl [HzL]; · iexact HzL
      isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      isplitl [Hy6]; · iexact Hy6
      isplitl [Hy7]; · iexact Hy7
      isplitl [Hy8]; · iexact Hy8
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hxv]; · iapply (some_intro c (xin m ρ c)); iexact Hxv
    isplitl [Hsa]; · iexact Hsa
    isplitl [Hxs]; · iexact Hxs
    isplitl [Hxb]; · iapply (some_intro c (assemble (xcv m ρ (peer c)))); iexact Hxb
    isplitl [Hab]; · iapply (some_intro c (asv m ρ (peer c))); iexact Hab
    isplitl [Hsb]; · iexact Hsb
    iapply (some_intro c (assemble (sbv m ρ (peer c)))); iexact Hrb
  isplitl [HO]; · iexact HO
  isplitl [Ha]; · iexact Ha
  isplitl [Hw1]; · iexact Hw1
  isplitl [Hw2]; · iexact Hw2
  iexact Hout

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

def bodyPre : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost : sProp 𝕄 :=
  iprop(Φ₁ m ρ c ∗ (dats m ρ 0 c).owesAt () t0_0.succ ∗ stg c cc0_stg0_0 (ain m ρ c) ∗ stg c cc0_stg1_0 (w1in m ρ c)
    ∗ stg c cc0_stg2_0 (w2in m ρ c) ∗ stg c cc0_stg3_0 (outv m ρ c))

theorem stg_of (b : Ref sig .tc) (X : b.ty.Contents (Elt F)) : (owns (c : Thread nD τ) (Memref.whole b) fullShare X : sProp 𝕄) ⊢ stg c b X :=
  Entails.of_eq (owns_whole_eq c b X)
theorem of_stg (b : Ref sig .tc) (X : b.ty.Contents (Elt F)) : (stg c b X : sProp 𝕄) ⊢ owns (c : Thread nD τ) (Memref.whole b) fullShare X :=
  Entails.of_eq (owns_whole_eq c b X).symm

set_option maxRecDepth 4000 in
/-- What the pipeline asks of the body, at the one step of its grid. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) aM (Memref.isWhole_whole _) w1M (Memref.isWhole_whole _) w2M (Memref.isWhole_whole _) oM (Memref.isWhole_whole _) xvM (Memref.isWhole_whole _) asM (Memref.isWhole_whole _) xsM (Memref.isWhole_whole _) xbM (Memref.isWhole_whole _) abM (Memref.isWhole_whole _) sbM (Memref.isWhole_whole _) rbM (Memref.isWhole_whole _) cc0_scratch7 cc0_scratch8 cc0_scratch9) (fun _ => bodyPost m ρ c)
  unfold bodyPre Φ₀ start Dat.owesAt Pipeline.owesWithin
  iintro ⟨⟨⟨⟨%K, Hg⟩, Hc, Hx⟩, Hscr⟩, ⟨%W, %hW, HO⟩, ⟨%d0, %g0, %h0, H0⟩, ⟨%d1, %g1, %h1, H1⟩, ⟨%d2, %g2, %h2, H2⟩, ⟨%d3, %g3, %h3, H3⟩⟩
  rw [show (dats m ρ 0 c).owed t0_0.castSucc = O₀ c from rfl]
  have e0 : g0 = ain m ρ c := by rw [h0]; unfold Dat.before; rw [if_pos (fetch_0 t0_0)]; rfl
  have e1 : g1 = w1in m ρ c := by rw [h1]; unfold Dat.before; rw [if_pos (fetch_1 t0_0)]; rfl
  have e2 : g2 = w2in m ρ c := by rw [h2]; unfold Dat.before; rw [if_pos (fetch_2 t0_0)]; rfl
  subst e0 e1 e2
  iapply (sound_body m ρ K c) $$ [Hg Hc Hx Hscr HO H0 H1 H2 H3]
  · isplitl [Hg]; · iexact Hg
    isplitl [Hc]; · iexact Hc
    isplitl [Hx]; · iexact Hx
    isplitl [Hscr]; · iexact Hscr
    isplitl [HO]; · unfold owesE; iexists W; iexact HO
    isplitl [H0]; · iapply (own_of_pts c cc0_stg0_0 (ain m ρ c)); iexact H0
    isplitl [H1]; · iapply (own_of_pts c cc0_stg1_0 (w1in m ρ c)); iexact H1
    isplitl [H2]; · iapply (own_of_pts c cc0_stg2_0 (w2in m ρ c)); iexact H2
    iapply (some_intro c g3); iapply (own_of_pts c cc0_stg3_0 g3); iexact H3
  unfold owesE
  iintro ⟨HP, ⟨%W', HO⟩, H0, H1, H2, H3⟩
  unfold bodyPost Dat.owesAt Pipeline.owesWithin
  rw [show (dats m ρ 0 c).owed t0_0.succ = 0 from rfl]
  isplitl [HP]; · iexact HP
  isplitl [HO]
  · iexists W'
    isplitr; · ipureintro; exact fun _ _ => Or.inl trivial
    iexact HO
  isplitl [H0]; · iapply (stg_of c cc0_stg0_0 (ain m ρ c)); iexact H0
  isplitl [H1]; · iapply (stg_of c cc0_stg1_0 (w1in m ρ c)); iexact H1
  isplitl [H2]; · iapply (stg_of c cc0_stg2_0 (w2in m ρ c)); iexact H2
  iapply (stg_of c cc0_stg3_0 (outv m ρ c)); iexact H3

end Cert.Moe.KernelIdeal

end
-- ==== Proof.Moe.KernelIdeal.Run.lean ====
/-
The launch: every semaphore of the exchange gets its invariant, the duties are dealt to the devices that pay them,
and the launch theorem gives the run of the whole machine.
-/
module

public import proofs.«01_k».proof.Proof.Moe.KernelIdeal.Body
public import Idealize.ShloMosaic.Lib.Pipeline.CollectiveSegs

@[expose] public section

noncomputable section

namespace Cert.Moe.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem ownSemFacts : Pipeline.OwnSemFacts cfg0.spec osem := by decide
theorem share_eq (w : Fin cfg0.W) : (dats m ρ 0 c).share w = fullShare := by unfold Dat.share; split <;> rfl

theorem oall_injective : Function.Injective oall := by decide
theorem kcell_injective : Function.Injective (kcell : Dev nD × Fin 20 → GSem nD τ sig) := fun a b h =>
  Prod.ext (congrArg (fun g : GSem nD τ sig => g.1.1) h) (oall_injective (congrArg Prod.snd h))

/-- The exchange's semaphores over all devices, and the one duty of each. -/
def ringCells : Finset (GSem nD τ sig) := Finset.univ.map ⟨kcell, kcell_injective⟩
def ringToks : Finset (GSem nD τ sig × ℕ × Unit) :=
  Finset.univ.map ⟨fun ck : Dev nD × Fin 20 => (kcell ck, 0, ()), fun _ _ h => kcell_injective (congrArg Prod.fst h)⟩

def u₀ : UU := (initOf (Pipeline.cells cfgs cellOf_inj) (Pipeline.launchToks cfgs cellOf_inj), initOf ringCells ringToks)

/-- One thing of each of a device's twenty semaphores. -/
abbrev each (Φ : GSem nD τ sig → sProp 𝕄) (c : Dev nD) : sProp 𝕄 := bigSep Finset.univ fun k : Fin 20 => Φ (kcell (c, k))

def G (c : Dev nD) : sProp 𝕄 :=
  iprop(each (fun g => roundState EX (Rd m ρ) g 0) c ∗ each (fun g => atPos EX g 0 ∅ 0) c ∗ each (fun g => reached EX g 0) c ∗ each (fun g => dutyTok EX g 0 ()) c)
def G' (c : Dev nD) : sProp 𝕄 := iprop(∃ K, records m ρ K ∗ linear c)

theorem bigSep_twenty (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- A device's semaphores by their use: the barrier, the load's, the nine sends', the nine receives'. -/
theorem each_uses (Φ : GSem nD τ sig → sProp 𝕄) : each Φ c
    ⊢ iprop(Φ (barC c) ∗ Φ (dC c 0) ∗ (bigSep Finset.univ fun j : Fin 9 => Φ (dC c (sI j))) ∗ bigSep Finset.univ fun j : Fin 9 => Φ (dC c (rI j))) := by
  unfold each
  rw [bigSep_twenty, bigSep_nine, bigSep_nine]
  show iprop(Φ (kcell (c, 0)) ∗ Φ (kcell (c, 1)) ∗ Φ (kcell (c, 2)) ∗ Φ (kcell (c, 3)) ∗ Φ (kcell (c, 4)) ∗ Φ (kcell (c, 5)) ∗ Φ (kcell (c, 6)) ∗ Φ (kcell (c, 7)) ∗ Φ (kcell (c, 8)) ∗ Φ (kcell (c, 9)) ∗ Φ (kcell (c, 10)) ∗ Φ (kcell (c, 11)) ∗ Φ (kcell (c, 12)) ∗ Φ (kcell (c, 13)) ∗ Φ (kcell (c, 14)) ∗ Φ (kcell (c, 15)) ∗ Φ (kcell (c, 16)) ∗ Φ (kcell (c, 17)) ∗ Φ (kcell (c, 18)) ∗ Φ (kcell (c, 19)))
    ⊢ iprop(Φ (kcell (c, 0)) ∗ Φ (kcell (c, 1)) ∗ (Φ (kcell (c, 2)) ∗ Φ (kcell (c, 3)) ∗ Φ (kcell (c, 4)) ∗ Φ (kcell (c, 5)) ∗ Φ (kcell (c, 6)) ∗ Φ (kcell (c, 7)) ∗ Φ (kcell (c, 8)) ∗ Φ (kcell (c, 9)) ∗ Φ (kcell (c, 10)))
      ∗ Φ (kcell (c, 11)) ∗ Φ (kcell (c, 12)) ∗ Φ (kcell (c, 13)) ∗ Φ (kcell (c, 14)) ∗ Φ (kcell (c, 15)) ∗ Φ (kcell (c, 16)) ∗ Φ (kcell (c, 17)) ∗ Φ (kcell (c, 18)) ∗ Φ (kcell (c, 19)))
  iintro ⟨HB, HL, Hs0, Hs1, Hs2, Hs3, Hs4, Hs5, Hs6, Hs7, Hs8, Hr0, Hr1, Hr2, Hr3, Hr4, Hr5, Hr6, Hr7, Hr8⟩
  isplitl [HB]; · iexact HB
  isplitl [HL]; · iexact HL
  isplitl [Hs0 Hs1 Hs2 Hs3 Hs4 Hs5 Hs6 Hs7 Hs8]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  iexact Hr8

theorem each_all (Φ : GSem nD τ sig → sProp 𝕄) : bigSep ringCells Φ = bigSep Finset.univ (each Φ) := by
  unfold ringCells each; rw [bigSep_map, bigSep_univ_prod]; rfl

theorem fund_ring : BI.own (EX (initOf ringCells ringToks)) ⊢ (|==> bigSep Finset.univ (G m ρ) : sProp 𝕄) := by
  have hT : bigSep ringToks (fun x => (dutyTok EX x.1 x.2.1 x.2.2 : sProp 𝕄)) = bigSep Finset.univ (each fun g => dutyTok EX g 0 ()) := by
    unfold ringToks each; rw [bigSep_map, bigSep_univ_prod]; rfl
  iintro HX
  imod (Rounds.fund EX (Rd m ρ) ringCells ringToks) $$ HX with ⟨Hst, Hr, Hat, Htok⟩
  imodintro
  ihave Hst := (Entails.of_eq (each_all fun g => roundState EX (Rd m ρ) g 0)) $$ Hst
  ihave Hat := (Entails.of_eq (each_all fun g => atPos EX g 0 ∅ 0)) $$ Hat
  ihave Hr := (Entails.of_eq (each_all fun g => reached EX g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem ownSems0_eq : (Pipeline.ownSems0 (Ix := Unit) (Name := ℕ) (U := UU) (Lvl := ℕ) (Val := Elt F) (τ := τ) osem c : sProp 𝕄)
    = bigSep Finset.univ fun i : Fin 19 => semVal (dC c i) 0 := rfl
theorem unscopedSems0_eq : (unscopedSems0 c : sProp 𝕄) = semVal (barC c) 0 := by
  unfold unscopedSems0
  rw [bigSep_eq_bigSepL_of_eq [SemLoc.reg barS] (by decide) (by decide)]
  rfl

theorem sems_each : iprop(Pipeline.ownSems0 (Ix := Unit) (Name := ℕ) (U := UU) (Lvl := ℕ) (Val := Elt F) (τ := τ) osem c ∗ unscopedSems0 c)
    ⊢ (each (fun g => semVal g 0) c : sProp 𝕄) := by
  rw [ownSems0_eq, unscopedSems0_eq]
  unfold each
  rw [bigSep_twenty, bigSep_nineteen]
  show iprop((semVal (dC c 0) 0 ∗ semVal (dC c 1) 0 ∗ semVal (dC c 2) 0 ∗ semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0) ∗ semVal (barC c) 0) ⊢ iprop(semVal (barC c) 0 ∗ semVal (dC c 0) 0 ∗ semVal (dC c 1) 0 ∗ semVal (dC c 2) 0 ∗ semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0)
  iintro ⟨H, HB⟩
  isplitl [HB] <;> iassumption

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((each (fun g => iprop(∃ κ : ℕ, cellInv EX (Rd m ρ) κ g)) c)
          ∗ each (fun g => atPos EX g 0 ∅ 0) c ∗ each (fun g => reached EX g 0) c ∗ each (fun g => dutyTok EX g 0 ()) c) := by
  unfold G
  iintro ⟨Ho, Hu, Hst, Hat, Hr, Htok⟩
  ihave Hv := (sems_each c) $$ [Ho Hu]
  · isplitl [Ho] <;> iassumption
  imod (show iprop(each (fun g => semVal g 0) c ∗ each (fun g => roundState EX (Rd m ρ) g 0) c)
      ⊢ (|={Set.univ}=> each (fun g => iprop(∃ κ : ℕ, cellInv EX (Rd m ρ) κ g)) c : sProp 𝕄) from by
        unfold each
        rw [← bigSep_sep']
        exact (bigSep_mono fun k _ => (Rounds.body_intro EX (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The duties a device pays: its partner's barrier and receives, its own load and sends. -/
def dealt (c : Dev nD) : sProp 𝕄 :=
  iprop(dutyTok EX (barC (peer c)) 0 () ∗ dutyTok EX (dC c 0) 0 () ∗ (bigSep Finset.univ fun j : Fin 9 => dutyTok EX (dC c (sI j)) 0 ())
    ∗ bigSep Finset.univ fun j : Fin 9 => dutyTok EX (dC (peer c) (rI j)) 0 ())

/-- The duties dealt: the barriers' and the receives' go to the partner. -/
theorem deal : bigSep Finset.univ (each fun g => (dutyTok EX g 0 () : sProp 𝕄)) ⊢ bigSep Finset.univ (dealt (F := F)) := by
  refine (bigSep_mono fun c _ => each_uses c _).trans ?_
  unfold dealt
  simp only [bigSep_sep']
  rw [bigSep_univ_equiv swap (fun c : Dev nD => (dutyTok EX (barC c) 0 () : sProp 𝕄)),
    bigSep_univ_equiv swap (fun c : Dev nD => (bigSep Finset.univ fun j : Fin 9 => dutyTok EX (dC c (rI j)) 0 () : sProp 𝕄))]
  exact BI.Entails.refl _

theorem linear_intro : iprop(each (fun g => atPos EX g 0 ∅ 0) c ∗ dealt c) ⊢ (linear c : sProp 𝕄) := by
  refine (sep_mono_left (each_uses c _)).trans ?_
  unfold dealt linear pay
  simp only [bigSep_sep']
  iintro ⟨⟨HaB, HaL, HaS, HaR⟩, HtB, HtL, HtS, HtR⟩
  isplitl [HtB]; · iexact HtB
  isplitl [HaB]; · iexact HaB
  isplitl [HtL]; · iexact HtL
  isplitl [HaL]; · iexact HaL
  isplitl [HtS HtR HaS]
  · isplitl [HtS]; · iexact HtS
    isplitl [HtR] <;> iassumption
  iexact HaR

theorem G'_intro (K : Dev nD × Fin 20 → ℕ) : iprop(records m ρ K ∗ linear c) ⊢ G' m ρ c := by
  unfold G'
  iintro H
  iexists K; iexact H

theorem regroup :
    (bigSep Finset.univ fun c : Dev nD => iprop((each (fun g => iprop(∃ κ : ℕ, cellInv EX (Rd m ρ) κ g)) c)
          ∗ each (fun g => atPos EX g 0 ∅ 0) c ∗ each (fun g => reached EX g 0) c ∗ each (fun g => dutyTok EX g 0 ()) c) : sProp 𝕄)
      ⊢ bigSep Finset.univ (G' m ρ) := by
  rw [bigSep_sep', bigSep_sep', bigSep_sep', ← bigSep_univ_prod (fun ck : Dev nD × Fin 20 => iprop(∃ κ : ℕ, cellInv EX (Rd m ρ) κ (kcell ck))),
    ← bigSep_univ_prod (fun ck : Dev nD × Fin 20 => (reached EX (kcell ck) 0 : sProp 𝕄))]
  iintro ⟨HI, Hat, #HR, Htok⟩
  ihave HK := (BI.bigSep_exists_pi Finset.univ (fun (ck : Dev nD × Fin 20) (κ : ℕ) => (cellInv EX (Rd m ρ) κ (kcell ck) : sProp 𝕄))) $$ HI
  icases HK with ⟨%K, #HI⟩
  ihave Htk := deal $$ Htok
  iapply (bigSep_with_persistent (R := records m ρ K) fun c _ => G'_intro m ρ c K)
  isplitr
  · unfold records; isplitl; · iexact HI
    iexact HR
  iapply ((Entails.of_eq (bigSep_sep' Finset.univ (each fun g => (atPos EX g 0 ∅ 0 : sProp 𝕄)) dealt).symm).trans
    (bigSep_mono fun c _ => linear_intro c))
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem same_cell {a b : Dev nD} {sm : SemLoc sig} (h : (((a : Thread nD τ), sm) : GSem nD τ sig) = ((b : Thread nD τ), sm)) : a = b :=
  congrArg (fun g : GSem nD τ sig => g.1.1) h

theorem recv_ne_bar (a b : Dev nD) (j : Fin 9) : dC a (rI j) ≠ barC b := fun h => nomatch (congrArg Prod.snd h)
theorem recv_inj {a b : Dev nD} {i j : Fin 9} (h : dC a (rI i) = dC b (rI j)) : a = b ∧ i = j :=
  ⟨congrArg (fun g : GSem nD τ sig => g.1.1) h, (by decide : Function.Injective fun j : Fin 9 => (osem (rI j))) (congrArg Prod.snd h)⟩

/-- What a list of debts owes on a receive, and on the barrier. -/
theorem debt_recv (d : Dev nD) (j : Fin 9) : ∀ l : List (Fin 9), debt d l (dC c (rI j)) () = if d = peer c then l.count j * amt (rI j) else 0
  | [] => by unfold debt; rw [List.count_nil, Nat.zero_mul, ite_self]; rfl
  | i :: l => by
    unfold debt
    rw [Pi.add_apply, Finsupp.add_apply, debt_recv d j l, tallyAt_apply]
    by_cases h : d = peer c
    · rw [if_pos h, if_pos h]
      by_cases hi : i = j
      · subst hi; subst h
        rw [if_pos ⟨by rw [peer_peer], rfl⟩, List.count_cons_self, Nat.add_mul, Nat.one_mul]
      · rw [if_neg (fun h' => hi (recv_inj h'.1).2.symm), List.count_cons_of_ne hi, Nat.add_zero]
    · rw [if_neg h, if_neg h, if_neg (fun h' => h (by rw [(recv_inj h'.1).1, peer_peer]))]
theorem debt_bar (d : Dev nD) : ∀ l : List (Fin 9), debt d l (barC c) () = 0
  | [] => rfl
  | i :: l => by
    unfold debt
    rw [Pi.add_apply, Finsupp.add_apply, debt_bar d l, tallyAt_apply, if_neg (fun h => recv_ne_bar _ _ _ h.1.symm)]

theorem owed_recv (d : Dev nD) (j : Fin 9) : O₀ d (dC c (rI j)) () = if d = peer c then amt (rI j) else 0 := by
  unfold O₀
  rw [Pi.add_apply, Finsupp.add_apply, tallyAt_apply, if_neg (fun h => recv_ne_bar _ _ _ h.1), Nat.add_zero, debt_recv,
    (by decide : ∀ j : Fin 9, [0, 1, 2, 3, 4, 5, 6, 7, 8].count j = 1) j, Nat.one_mul]
theorem owed_bar (d : Dev nD) : O₀ d (barC c) () = if d = peer c then 1 else 0 := by
  unfold O₀
  rw [Pi.add_apply, Finsupp.add_apply, debt_bar, tallyAt_apply, Nat.zero_add]
  by_cases h : d = peer c
  · subst h; rw [if_pos rfl, if_pos ⟨by rw [peer_peer], rfl⟩]
  · rw [if_neg h, if_neg (fun h' => h (by rw [same_cell h'.1, peer_peer]))]

/-- A semaphore on which only the partner owes gets its credit from there. -/
theorem launch_of (g : GSem nD τ sig) (n : ℕ) (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem creds : (Pipeline.launchCred O₀ c : sProp 𝕄) ⊢ credits c := by
  unfold Pipeline.launchCred
  refine (bigSep_subset (t := Finset.univ.map ⟨oall, oall_injective⟩) (Finset.subset_univ _)).trans ?_
  rw [bigSep_map]
  refine (each_uses c (fun g => cred (tallyOn g (launchCredit (Pipeline.owing O₀) 0 g)))).trans ?_
  unfold credits
  rw [launch_of c (barC c) 1 fun d => owed_bar c d]
  simp only [launch_of c (dC c (rI _)) _ fun d => owed_recv c d _]
  iintro ⟨HB, -, -, HR⟩
  isplitl [HB] <;> iassumption

/-! ## What the launch theorem asks -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none]
  refine (sep_mono_left (Entails.of_eq (unscopedRest0_eq c fun b => m ((c : Thread nD τ).loc b)))).trans ?_
  unfold G' start ctx
  iintro ⟨Hx, Hlev, Hcr, -, ⟨%K, HR, Hlin⟩⟩
  ihave Hc := (creds c) $$ Hcr
  imodintro
  isplitl
  · isplitl [HR Hlin Hlev]
    · iexists K
      isplitl [HR Hlev]
      · isplitl [HR] <;> iassumption
      iexact Hlin
    isplitl [Hc]; · iexact Hc
    iapply (own_of_pts c main_arg0 (xin m ρ c)); iexact Hx
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hxv, Has, Hxs, Hxb, Hab, Hsb, Hrb⟩
  isplitl [Hs]; · iexact Hs
  isplitl [Hxv]; · iapply (some_of_pts c cc0_scratch0); iexact Hxv
  isplitl [Has]; · iapply (some_of_pts c cc0_scratch1); iexact Has
  isplitl [Hxs]; · iapply (some_of_pts c cc0_scratch2); iexact Hxs
  isplitl [Hxb]; · iapply (some_of_pts c cc0_scratch3); iexact Hxb
  isplitl [Hab]; · iapply (some_of_pts c cc0_scratch4); iexact Hab
  isplitl [Hsb]; · iapply (some_of_pts c cc0_scratch5); iexact Hsb
  iapply (some_of_pts c cc0_scratch6); iexact Hrb

/-- What a device ends with beside the arrays: its barrier at zero and its block of `x` as it was. -/
def leave : sProp 𝕄 := iprop(unscopedSems0 c ∗ (((c : Thread nD τ).loc main_arg0) ↦{fullShare} (xin m ρ c : Buf (Elt F) ((c : Thread nD τ).loc main_arg0))))

theorem phi1_exit :
    (dats m ρ 0 c).Φ (Fin.last cfg0.N) ⊢ iprop(leave m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold leave
  rw [unscopedSems0_eq]
  unfold Φ₁ scratch
  iintro ⟨⟨HB, Hx⟩, Hz, Hxv, Has, Hxs, Hxb, Hab, Hsb, Hrb⟩
  isplitl [HB Hx]
  · isplitl [HB]; · iexact HB
    iapply (pts_of_own c main_arg0 (xin m ρ c)); iexact Hx
  isplitl [Hz]; · iexact Hz
  isplitl [Hxv]; · iapply (pts_of_some c cc0_scratch0); iexact Hxv
  isplitl [Has]; · iapply (pts_of_some c cc0_scratch1); iexact Has
  isplitl [Hxs]; · iapply (pts_of_some c cc0_scratch2); iexact Hxs
  isplitl [Hxb]; · iapply (pts_of_some c cc0_scratch3); iexact Hxb
  isplitl [Hab]; · iapply (pts_of_some c cc0_scratch4); iexact Hab
  isplitl [Hsb]; · iapply (pts_of_some c cc0_scratch5); iexact Hsb
  iapply (pts_of_some c cc0_scratch6); iexact Hrb

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array after the run. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- From any memory with every counter at zero, every weakly fair execution of the eight devices ends, without fault; at
    the end each window's array holds what the exchange computes, `x` is as it was and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := leave m ρ) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold leave
      iintro ⟨⟨Hu, Hx⟩, -, HSI⟩
      icombine HSI Hx gives %hx
      imod (Pipeline.unscopedSems0_read (X := unscopedSems0 c) (c := c) fupd_intro s') $$ [Hu HSI] with ⟨%hu, HSI⟩
      · isplitl [Hu] <;> iassumption
      imodintro
      isplitr
      · ipureintro
        exact ⟨Buf.eq_of_forall_mem_univ hx, hu⟩
      iexact HSI)
    (hQ := fun _ h hs => ⟨fun c => ⟨fun w => (h c).1 w, (h c).2.2.1⟩, sem_eq_zero hs fun c => (h c).2.2.2⟩)

/-- The input windows' arrays end as they began. -/
theorem finalA_in0 : finalA m ρ c (0 : Fin 4) = m (win0_0.arr.view.loc (c : Thread nD τ)) := (dats (F := F) m ρ 0 c).arrAt_in (0 : Fin 4) rfl _
theorem finalA_in1 : finalA m ρ c (1 : Fin 4) = m (win0_1.arr.view.loc (c : Thread nD τ)) := (dats (F := F) m ρ 0 c).arrAt_in (1 : Fin 4) rfl _
theorem finalA_in2 : finalA m ρ c (2 : Fin 4) = m (win0_2.arr.view.loc (c : Thread nD τ)) := (dats (F := F) m ρ 0 c).arrAt_in (2 : Fin 4) rfl _

/-- The arguments end as they began, and every counter is zero. -/
theorem quiescent : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c => ⟨(h.1 c).2, ((h.1 c).1 0).trans (finalA_in0 m ρ c), ((h.1 c).1 1).trans (finalA_in1 m ρ c),
    ((h.1 c).1 2).trans (finalA_in2 m ρ c)⟩, h.2⟩) (run_main m ρ)

end Cert.Moe.KernelIdeal

end
-- ==== Proof.Moe.Value.Ends.lean ====
/-
What the launch's windows mean at whole arrays: each window stages its whole array in one block, so the staged blocks
are the argument arrays and the result array ends at the block the body leaves.
-/
module

public import proofs.«01_k».proof.Proof.Moe.KernelIdeal.Run
public import proofs.«01_k».proof.Proof.Gen.KernelIdeal.Points
public import Idealize.ShloMosaic.Lib.Pipeline.Value

@[expose] public section

noncomputable section

namespace Cert.Moe.KernelIdeal

open Cert.KernelIdeal Cert.KernelIdeal.Gen
open Idealize.ShloMosaic
open Idealize.ShloMosaic.TcCoe

variable {F : FTy → Type} [FloatOps F]
variable (m : ∀ l : Loc nD τ sig, Buf (Elt F) l) (ρ : Dev nD → PrngReg) (c : Dev nD)

/-- The assignment block a device stages is its assignment array. -/
theorem ain_eq : ain m ρ c = m ((c : Thread nD τ).loc main_arg1) := by
  funext i
  unfold ain
  rw [View.read_apply]
  refine congrArg (m ((c : Thread nD τ).loc main_arg1)) (funext fun a => Fin.ext ?_)
  match a with
  | ⟨0, _⟩ => exact (Nat.zero_add _).trans (Nat.one_mul _)

/-- The first matrices a device stages are its array of first matrices. -/
theorem w1in_eq : w1in m ρ c = m ((c : Thread nD τ).loc main_arg2) := by
  funext i
  unfold w1in
  rw [View.read_apply]
  refine congrArg (m ((c : Thread nD τ).loc main_arg2)) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The second matrices a device stages are its array of second matrices. -/
theorem w2in_eq : w2in m ρ c = m ((c : Thread nD τ).loc main_arg3) := by
  funext i
  unfold w2in
  rw [View.read_apply]
  refine congrArg (m ((c : Thread nD τ).loc main_arg3)) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- An index of the result array is its own index in the one block written back. -/
theorem emb_out (i : S512x512.Idx) : (win0_3.blk t0_0).view.emb i = i := funext fun a => Fin.ext (by
  match a with
  | ⟨0, _⟩ => exact (Nat.zero_add _).trans (Nat.one_mul _)
  | ⟨1, _⟩ => exact (Nat.zero_add _).trans (Nat.one_mul _))

/-- The result array ends at the block the body leaves. -/
theorem finalA_out : finalA m ρ c (3 : Fin 4) = outv m ρ c :=
  (dats (F := F) m ρ 0 c).arrAt_eq_of_cover (3 : Fin 4) (outv m ρ c)
    (fun t _ => by
      obtain rfl := fin_N0 t
      funext i
      rw [View.read_apply]
      show outv m ρ c _ = outv m ρ c _
      exact congrArg (outv m ρ c) ((emb_out i).symm))
    fun i => ⟨t0_0, flush0_3 t0_0, by
      have h := ((cfg0.win (3 : Fin 4)).blk t0_0).view.emb_mem_set i
      rwa [show ((cfg0.win (3 : Fin 4)).blk t0_0).view.emb i = i from emb_out i] at h⟩

end Cert.Moe.KernelIdeal

end
-- ==== Proof.Moe.Value.Result.lean ====
/-
The kernel's result over the extended reals, element by element: a row's value on the device that holds it is what its
own two experts give plus what its partner's two experts give.
-/
module

public import proofs.«01_k».proof.Proof.Moe.Value.Ends
public import proofs.«01_k».proof.Proof.Moe.Value.Ffn

@[expose] public section

noncomputable section

namespace Cert.Moe.Value

open Cert.KernelIdeal Cert.KernelIdeal.Gen Cert.Moe.KernelIdeal
open Idealize.ShloMosaic
open Idealize.ShloMosaic.TcCoe

variable (m : ∀ l : Loc nD τ sig, Buf (Elt Ideal) l) (ρ : Dev nD → PrngReg) (c d : Dev nD)

/-- A device's rows of `x`, its words of the assignment, and its experts' matrices, as functions of their coordinates. -/
def xrow (i : Fin 512) (k : Fin 512) : EReal := (m ((d : Thread nD τ).loc main_arg0) : FVec Ideal S512x512 .f32) (ix2 i k)
def word (i : Fin 512) : BitVec 32 := (m ((d : Thread nD τ).loc main_arg1) : IVec S512 32) (ix1 i)
def mat1 (l : Fin 2) (k : Fin 512) (h : Fin 1024) : EReal := (m ((c : Thread nD τ).loc main_arg2) : FVec Ideal S2x512x1024 .f32) (ix3 l k h)
def mat2 (l : Fin 2) (h : Fin 1024) (j : Fin 512) : EReal := (m ((c : Thread nD τ).loc main_arg3) : FVec Ideal S2x1024x512 .f32) (ix3 l h j)

/-- What device `c`'s experts give for row `i` of device `d`. -/
def part (i j : Fin 512) : EReal := two (e0 c) (word m d i) (xrow m d i) (mat1 m c) (mat2 m c) j

/-- The first matrices the body reads are the device's own two, one after the other. -/
theorem mats1 (l : Fin 2) (k : Fin 512) (h : Fin 1024) :
    (![w1a m ρ c, w1b m ρ c] : Fin 2 → Vec Ideal S1x512x1024 .f32) l (ix3 0 k h) = mat1 m c l k h := by
  unfold mat1
  rw [← w1in_eq m ρ c]
  match l with
  | ⟨0, _⟩ => exact congrArg (w1in m ρ c) (funext fun a => Fin.ext (by
      match a with
      | ⟨0, _⟩ => rfl
      | ⟨1, _⟩ => exact (Nat.zero_add _).trans (Nat.one_mul _)
      | ⟨2, _⟩ => exact (Nat.zero_add _).trans (Nat.one_mul _)))
  | ⟨1, _⟩ => exact congrArg (w1in m ρ c) (funext fun a => Fin.ext (by
      match a with
      | ⟨0, _⟩ => rfl
      | ⟨1, _⟩ => exact (Nat.zero_add _).trans (Nat.one_mul _)
      | ⟨2, _⟩ => exact (Nat.zero_add _).trans (Nat.one_mul _)))

/-- The second matrices the body reads are the device's own two, one after the other. -/
theorem mats2 (l : Fin 2) (h : Fin 1024) (j : Fin 512) :
    (![w2a m ρ c, w2b m ρ c] : Fin 2 → Vec Ideal S1x1024x512 .f32) l (ix3 0 h j) = mat2 m c l h j := by
  unfold mat2
  rw [← w2in_eq m ρ c]
  match l with
  | ⟨0, _⟩ => exact congrArg (w2in m ρ c) (funext fun a => Fin.ext (by
      match a with
      | ⟨0, _⟩ => rfl
      | ⟨1, _⟩ => exact (Nat.zero_add _).trans (Nat.one_mul _)
      | ⟨2, _⟩ => exact (Nat.zero_add _).trans (Nat.one_mul _)))
  | ⟨1, _⟩ => exact congrArg (w2in m ρ c) (funext fun a => Fin.ext (by
      match a with
      | ⟨0, _⟩ => rfl
      | ⟨1, _⟩ => exact (Nat.zero_add _).trans (Nat.one_mul _)
      | ⟨2, _⟩ => exact (Nat.zero_add _).trans (Nat.one_mul _)))

/-- The rows of `x` as sent are the rows of `x`. -/
theorem xsv_apply (i k : Fin 512) : xsv m ρ d (ix2 i k) = xrow m d i k := by
  unfold xsv xrow
  pointwise [k0_pay2]
  rfl

/-- The assignment column is the device's words, as numbers. -/
theorem asv_col (i : Fin 512) : (k0_pay4 (asv m ρ d) : FVec Ideal S512x1 .f32) (ix2 i 0) = (((word m d i).toInt : ℝ) : EReal) := by
  unfold asv
  rw [col_apply, ain_eq]
  rfl

/-- A device's own contribution to its own rows. -/
theorem acc_apply (i j : Fin 512) : acc m ρ c (ix2 i j) = part m c c i j := by
  unfold acc
  rw [own_apply (e0 c) (word m c) _ (asv_col m ρ c)]
  unfold part
  congr 1
  · exact funext fun k => xsv_apply m ρ c i k
  · funext l k h; exact mats1 m ρ c l k h
  · funext l h j; exact mats2 m ρ c l h j

/-- Row `r` of chunk `k` among a device's rows. -/
def at_ (k : Fin 4) (r : Fin 128) : Fin 512 := ⟨128 * k.val + r.val, by have := k.isLt; have := r.isLt; omega⟩

/-- A row given by its number is the row of its chunk. -/
theorem at_eq (k : Fin 4) (r : Fin 128) (n : ℕ) (h : n < 512) (e : n = 128 * k.val + r.val) : (⟨n, h⟩ : Fin 512) = at_ k r := Fin.ext e

/-- A chunk's index in the whole block of rows. -/
theorem rk_emb (k : Fin 4) (r : Fin 128) (j : Fin 512) : (rk k).emb (ix2 r j : S128x512.Idx) = ix2 (at_ k r) j := funext fun a => Fin.ext (by
  match a with
  | ⟨0, _⟩ => exact congrArg (off k 0 + ·) (Nat.one_mul _) |>.trans (by fin_cases k <;> simp [off, at_])
  | ⟨1, _⟩ => exact congrArg (off k 1 + ·) (Nat.one_mul _) |>.trans (by fin_cases k <;> simp [off]))

/-- The column of a chunk's rows. -/
def colk (k : Fin 4) : FVec Ideal S128x1 .f32 := fun y => pcol m ρ c (ix2 (at_ k (y 0)) 0)

/-- The partner's column, as received, is its words as numbers. -/
theorem colk_apply (k : Fin 4) (r : Fin 128) : colk m ρ c k (ix2 r 0) = (((word m (peer c) (at_ k r)).toInt : ℝ) : EReal) := by
  have hp : pcol m ρ c = k0_pay4 (asv m ρ (peer c)) := by unfold pcol k0_pay6 k0_pay4; rfl
  unfold colk
  rw [hp]
  exact asv_col m ρ (peer c) (at_ k r)

/-- The device's contribution to chunk `k` of its partner's rows is the chunk's text at the partner's values. -/
theorem sbv_eq (k : Fin 4) : sbv m ρ c k
    = chunk (e0 c) (colk m ρ c k) (xcv m ρ (peer c) k) (w1a m ρ c) (w2a m ρ c) (w1b m ρ c) (w2b m ρ c) := by
  have h0 : (k0_pay7 (k0_pay3 (F := Ideal)) (asv m ρ (peer c)) : FVec Ideal S128x1 .f32) = colk m ρ c 0 := by
    funext y; pointwise [k0_pay7]; exact congrArg (fun i => pcol m ρ c (ix2 i 0)) (at_eq 0 (y 0) _ _ (by simp))
  have h1 : (k0_pay11 (pcol m ρ c) : FVec Ideal S128x1 .f32) = colk m ρ c 1 := by
    funext y; pointwise [k0_pay11]; exact congrArg (fun i => pcol m ρ c (ix2 i 0)) (at_eq 1 (y 0) _ _ rfl)
  have h2 : (k0_pay16 (pcol m ρ c) : FVec Ideal S128x1 .f32) = colk m ρ c 2 := by
    funext y; pointwise [k0_pay16]; exact congrArg (fun i => pcol m ρ c (ix2 i 0)) (at_eq 2 (y 0) _ _ rfl)
  have h3 : (k0_pay21 (pcol m ρ c) : FVec Ideal S128x1 .f32) = colk m ρ c 3 := by
    funext y; pointwise [k0_pay21]; exact congrArg (fun i => pcol m ρ c (ix2 i 0)) (at_eq 3 (y 0) _ _ rfl)
  match k with
  | 0 => rw [← h0]; rfl
  | 1 => rw [← h1]; rfl
  | 2 => rw [← h2]; rfl
  | 3 => rw [← h3]; rfl

/-- The device's contribution to a row of its partner. -/
theorem sbv_apply (k : Fin 4) (r : Fin 128) (j : Fin 512) : sbv m ρ c k (ix2 r j) = part m c (peer c) (at_ k r) j := by
  rw [sbv_eq, chunk_apply (e0 c) (fun r => word m (peer c) (at_ k r)) _ (colk_apply m ρ c k)]
  unfold part
  congr 1
  · exact funext fun k' => by
      unfold xcv
      rw [rk_emb]
      exact xsv_apply m ρ (peer c) (at_ k r) k'
  · funext l k h; exact mats1 m ρ c l k h
  · funext l h j; exact mats2 m ρ c l h j

/-- A chunk of the result is the device's own contribution plus what its partner returns. -/
theorem outc_apply (k : Fin 4) (r : Fin 128) (j : Fin 512) :
    outc m ρ c k (ix2 r j) = acc m ρ c (ix2 (at_ k r) j) + sbv m ρ (peer c) k (ix2 r j) := by
  match k with
  | 0 => show k0_pay25 _ _ _ = _; pointwise [k0_pay25]; exact congrArg (fun i => acc m ρ c (ix2 i j) + sbv m ρ (peer c) 0 (ix2 r j)) (at_eq 0 r _ _ (by simp))
  | 1 => show k0_pay26 _ _ _ = _; pointwise [k0_pay26]; exact congrArg (fun i => acc m ρ c (ix2 i j) + sbv m ρ (peer c) 1 (ix2 r j)) (at_eq 1 r _ _ rfl)
  | 2 => show k0_pay27 _ _ _ = _; pointwise [k0_pay27]; exact congrArg (fun i => acc m ρ c (ix2 i j) + sbv m ρ (peer c) 2 (ix2 r j)) (at_eq 2 r _ _ rfl)
  | 3 => show k0_pay28 _ _ _ = _; pointwise [k0_pay28]; exact congrArg (fun i => acc m ρ c (ix2 i j) + sbv m ρ (peer c) 3 (ix2 r j)) (at_eq 3 r _ _ rfl)

/-- THE RESULT: a row's value is what its own device's experts give plus what the partner's give. -/
theorem outv_apply (i j : Fin 512) : outv m ρ c (ix2 i j) = part m c c i j + part m (peer c) c i j := by
  have hi : i = at_ ⟨i.val / 128, by omega⟩ ⟨i.val % 128, by omega⟩ := Fin.ext (by simp only [at_]; omega)
  rw [hi, ← rk_emb]
  unfold outv
  rw [assemble_emb, outc_apply, sbv_apply, acc_apply, peer_peer]

end Cert.Moe.Value

end
-- ==== Proof.Moe.Value.Meet.lean ====
/-
The kernel meets the reference: a device's two experts and its partner's are the four of the reference, each once, and
what the devices hold are the parts of the reference's arrays.
-/
module

public import proofs.«01_k».proof.Defs
public import proofs.«01_k».proof.Proof.Moe.Value.Plain
public import proofs.«01_k».proof.Proof.Moe.Value.Result
public import Idealize.ShloMosaic.Lib.Layout

@[expose] public section

noncomputable section

namespace Cert.Moe.Value

open Cert.Moe.KernelIdeal
open Idealize.ShloMosaic
open Idealize.ShloMosaic.TcCoe
open Idealize.SL.Sem

/-- Of the experts 0, 1 and the experts 2, 3 together, a row gets the one its word names. -/
theorem two_add_two (a : BitVec 32) (x : Fin 512 → EReal) (u1 : Fin 4 → Fin 512 → Fin 1024 → EReal) (u2 : Fin 4 → Fin 1024 → Fin 512 → EReal) (j : Fin 512) :
    two 0#32 a x (fun l => u1 ⟨l.val, by omega⟩) (fun l => u2 ⟨l.val, by omega⟩) j
      + two 2#32 a x (fun l => u1 ⟨2 + l.val, by omega⟩) (fun l => u2 ⟨2 + l.val, by omega⟩) j
      = pick a fun e => ffn x (u1 e) (u2 e) j := by
  have e00 : Scalar.addi 0#32 0#32 = 0#32 := by decide
  have e01 : Scalar.addi 0#32 1#32 = 1#32 := by decide
  have e20 : Scalar.addi 2#32 0#32 = 2#32 := by decide
  have e21 : Scalar.addi 2#32 1#32 = 3#32 := by decide
  unfold two pick
  rw [e00, e01, e20, e21]
  by_cases h3 : a = 3#32
  · subst h3; simp
  by_cases h2 : a = 2#32
  · subst h2; simp
  by_cases h1 : a = 1#32
  · subst h1; simp
  by_cases h0 : a = 0#32
  · subst h0; simp
  simp [h0, h1, h2, h3]

/-- A device's first expert is 0 where its last mesh coordinate is 0. -/
theorem e0_even (c : Dev Cert.KernelIdeal.nD) (h : c.val % 2 = 0) : e0 c = 0#32 := by revert c; decide
/-- A device's first expert is 2 where its last mesh coordinate is 1. -/
theorem e0_odd (c : Dev Cert.KernelIdeal.nD) (h : c.val % 2 = 1) : e0 c = 2#32 := by revert c; decide
/-- A partner has the other last mesh coordinate. -/
theorem peer_mod (c : Dev Cert.KernelIdeal.nD) : (peer c).val % 2 = 1 - c.val % 2 := by revert c; decide

/-- The device's block number along a dimension cut by the last mesh axis. -/
theorem lin_eq (c : Dev Cert.KernelIdeal.nD) : Layout.meshLin [2, 2, 2] c.val [2] = c.val % 2 := by revert c; decide

section Parts

variable (c : Dev Cert.KernelIdeal.nD)

/-- Row `i` of a device, among the whole array's rows. -/
def rowAt (i : Fin 512) : Fin 1024 := ⟨c.val % 2 * 512 + i.val, by omega⟩
/-- Expert `l` of a device, among the four. -/
def expAt (l : Fin 2) : Fin 4 := ⟨c.val % 2 * 2 + l.val, by omega⟩

/-- A device's block of a `1024 × 512` array, by coordinates. -/
theorem block_rows (X : (⟨2, ![1024, 512]⟩ : Shape).Idx → EReal) (i j : Fin 512) :
    Layout.blockN ⟨2, ![512, 512]⟩ ⟨2, ![1024, 512]⟩ (Layout.meshBlock [2, 2, 2] ![[2], []] c) X (by decide) (ix2 i j) = X (ix2 (rowAt c i) j) := by
  rw [Layout.blockN_apply]
  refine congrArg X (funext fun a => Fin.ext ?_)
  rw [Layout.TilesN.idx_val]
  match a with
  | ⟨0, _⟩ => exact congrArg (fun n => n * 512 + i.val) (lin_eq c)
  | ⟨1, _⟩ => exact (congrArg (· + j.val) (Nat.zero_mul 512)).trans (Nat.zero_add _)

/-- A device's block of the words, by coordinates. -/
theorem block_words (A : (⟨1, ![1024]⟩ : Shape).Idx → BitVec 32) (i : Fin 512) :
    Layout.blockN ⟨1, ![512]⟩ ⟨1, ![1024]⟩ (Layout.meshBlock [2, 2, 2] ![[2]] c) A (by decide) (ix1 i) = A (ix1 (rowAt c i)) := by
  rw [Layout.blockN_apply]
  refine congrArg A (funext fun a => Fin.ext ?_)
  rw [Layout.TilesN.idx_val]
  match a with
  | ⟨0, _⟩ => exact congrArg (fun n => n * 512 + i.val) (lin_eq c)

/-- A device's block of the first matrices, by coordinates. -/
theorem block_mats1 (U : (⟨3, ![4, 512, 1024]⟩ : Shape).Idx → EReal) (l : Fin 2) (k : Fin 512) (h : Fin 1024) :
    Layout.blockN ⟨3, ![2, 512, 1024]⟩ ⟨3, ![4, 512, 1024]⟩ (Layout.meshBlock [2, 2, 2] ![[2], [], []] c) U (by decide) (ix3 l k h) = U (ix3 (expAt c l) k h) := by
  rw [Layout.blockN_apply]
  refine congrArg U (funext fun a => Fin.ext ?_)
  rw [Layout.TilesN.idx_val]
  match a with
  | ⟨0, _⟩ => exact congrArg (fun n => n * 2 + l.val) (lin_eq c)
  | ⟨1, _⟩ => exact (congrArg (· + k.val) (Nat.zero_mul 512)).trans (Nat.zero_add _)
  | ⟨2, _⟩ => exact (congrArg (· + h.val) (Nat.zero_mul 1024)).trans (Nat.zero_add _)

/-- A device's block of the second matrices, by coordinates. -/
theorem block_mats2 (U : (⟨3, ![4, 1024, 512]⟩ : Shape).Idx → EReal) (l : Fin 2) (h : Fin 1024) (j : Fin 512) :
    Layout.blockN ⟨3, ![2, 1024, 512]⟩ ⟨3, ![4, 1024, 512]⟩ (Layout.meshBlock [2, 2, 2] ![[2], [], []] c) U (by decide) (ix3 l h j) = U (ix3 (expAt c l) h j) := by
  rw [Layout.blockN_apply]
  refine congrArg U (funext fun a => Fin.ext ?_)
  rw [Layout.TilesN.idx_val]
  match a with
  | ⟨0, _⟩ => exact congrArg (fun n => n * 2 + l.val) (lin_eq c)
  | ⟨1, _⟩ => exact (congrArg (· + h.val) (Nat.zero_mul 1024)).trans (Nat.zero_add _)
  | ⟨2, _⟩ => exact (congrArg (· + j.val) (Nat.zero_mul 512)).trans (Nat.zero_add _)

/-- A device's experts and its partner's give a row what the reference's four give it. -/
theorem devices_meet (a : BitVec 32) (x : Fin 512 → EReal) (u1 : Fin 4 → Fin 512 → Fin 1024 → EReal) (u2 : Fin 4 → Fin 1024 → Fin 512 → EReal) (j : Fin 512) :
    two (e0 c) a x (fun l => u1 (expAt c l)) (fun l => u2 (expAt c l)) j
      + two (e0 (peer c)) a x (fun l => u1 (expAt (peer c) l)) (fun l => u2 (expAt (peer c) l)) j
      = pick a fun e => ffn x (u1 e) (u2 e) j := by
  have lo : ∀ d : Dev Cert.KernelIdeal.nD, d.val % 2 = 0 → ∀ l, expAt d l = ⟨l.val, by omega⟩ := fun d h l => Fin.ext (by simp only [expAt]; omega)
  have hi : ∀ d : Dev Cert.KernelIdeal.nD, d.val % 2 = 1 → ∀ l, expAt d l = ⟨2 + l.val, by omega⟩ := fun d h l => Fin.ext (by simp only [expAt]; omega)
  have hp := peer_mod c
  rcases Nat.mod_two_eq_zero_or_one c.val with h | h
  · have h' : (peer c).val % 2 = 1 := by omega
    rw [e0_even c h, e0_odd _ h']
    simp only [lo c h, hi _ h']
    exact two_add_two a x u1 u2 j
  · have h' : (peer c).val % 2 = 0 := by omega
    rw [e0_odd c h, e0_even _ h', add_comm]
    simp only [hi c h, lo _ h']
    exact two_add_two a x u1 u2 j

end Parts

/-- THE VALUES MEET: where every device holds its blocks of the reference's arguments, it ends with its block of the
    reference's result. -/
theorem result_eq (m : ∀ l : Loc Cert.KernelIdeal.nD Cert.KernelIdeal.τ Cert.KernelIdeal.sig, Buf (Elt Ideal) l) (ρ : Dev Cert.KernelIdeal.nD → PrngReg)
    (X : FVec Ideal ⟨2, ![1024, 512]⟩ .f32) (A : IVec ⟨1, ![1024]⟩ 32) (U1 : FVec Ideal ⟨3, ![4, 512, 1024]⟩ .f32) (U2 : FVec Ideal ⟨3, ![4, 1024, 512]⟩ .f32)
    (h0 : ∀ c : Dev Cert.KernelIdeal.nD, m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) X)
    (h1 : ∀ c : Dev Cert.KernelIdeal.nD, m ((c.tc : Thread Cert.KernelIdeal.nD Cert.KernelIdeal.τ).loc Cert.KernelIdeal.main_arg1) = Layout.blockN ⟨1, ![512]⟩ ⟨1, ![1024]⟩ (Layout.meshBlock [2, 2, 2] ![[2]] c) A)
    (h2 : ∀ c : Dev Cert.KernelIdeal.nD, m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[2], [], []] c) U1)
    (h3 : ∀ c : Dev Cert.KernelIdeal.nD, m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[2], [], []] c) U2)
    (c : Dev Cert.KernelIdeal.nD) :
    outv m ρ c = Layout.blockN ⟨2, ![512, 512]⟩ ⟨2, ![1024, 512]⟩ (Layout.meshBlock [2, 2, 2] ![[2], []] c) (plain X A U1 U2) := by
  have hx : ∀ d i, xrow m d i = fun k => X (ix2 (rowAt d i) k) := fun d i => funext fun k =>
    (congrFun (h0 d) _).trans (block_rows d X i k)
  have ha : ∀ d i, word m d i = A (ix1 (rowAt d i)) := fun d i => (congrFun (h1 d) _).trans (block_words d A i)
  have hu1 : ∀ d, mat1 m d = fun l k h => U1 (ix3 (expAt d l) k h) := fun d => funext fun l => funext fun k => funext fun h =>
    (congrFun (h2 d) _).trans (block_mats1 d U1 l k h)
  have hu2 : ∀ d, mat2 m d = fun l h j => U2 (ix3 (expAt d l) h j) := fun d => funext fun l => funext fun h => funext fun j =>
    (congrFun (h3 d) _).trans (block_mats2 d U2 l h j)
  have key : ∀ i j : Fin 512, outv m ρ c (ix2 i j) = plain X A U1 U2 (ix2 (rowAt c i) j) := fun i j => by
    rw [outv_apply, plain_apply]
    unfold part
    rw [hx, ha, hu1, hu1, hu2, hu2]
    exact devices_meet c (A (ix1 (rowAt c i))) (fun k => X (ix2 (rowAt c i) k)) (fun e k h => U1 (ix3 e k h)) (fun e h j => U2 (ix3 e h j)) j
  funext i
  have hi : i = ix2 (i 0) (i 1) := funext fun a => match a with | ⟨0, _⟩ => rfl | ⟨1, _⟩ => rfl
  rw [hi]
  exact (key (i 0) (i 1)).trans (block_rows c (plain X A U1 U2) (i 0) (i 1)).symm

end Cert.Moe.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Kernel.Run
public import proofs.«01_k».proof.Proof.Moe.Value.Meet
public import proofs.«01_k».proof.Proof.Moe.KernelIdeal.Run
public import Idealize.ShloMosaic.Adequacy
public import Idealize.ShloMosaic.Init

@[expose] public section

noncomputable section

namespace Cert.Proof

open Idealize.ShloMosaic Idealize.ShloMosaic.TcCoe Idealize.SL.Sem

/-- The reference ends, on its one device, with its arguments as they were and every counter zero. -/
theorem reference_quiescent : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of what the reference computes from the whole arrays. -/
theorem algebraic : Cert.algebraic_KernelIdeal_ReferenceIdeal (hKernelIdeal := Cert.KernelIdeal.Gen.facts) (hReferenceIdeal := Cert.ReferenceIdeal.Gen.facts) :=
  fun m g m' g' _ h =>
    ⟨Cert.Moe.Value.plain (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)),
      (θ_run Cert.KernelIdeal.defs _ _).mono (fun _ r c =>
          ⟨((r.1 c).1 3).trans ((Cert.Moe.KernelIdeal.finalA_out m g c).trans
              (Cert.Moe.Value.result_eq m g _ _ _ _ (fun d => (h d).1) (fun d => (h d).2.1) (fun d => (h d).2.2.1) (fun d => (h d).2.2.2) c)),
            (r.1 c).2, ((r.1 c).1 0).trans (Cert.Moe.KernelIdeal.finalA_in0 m g c),
            ((r.1 c).1 1).trans (Cert.Moe.KernelIdeal.finalA_in1 m g c), ((r.1 c).1 2).trans (Cert.Moe.KernelIdeal.finalA_in2 m g c)⟩)
        (Cert.Moe.KernelIdeal.run_main (F := Ideal) m g),
      (θ_run Cert.ReferenceIdeal.defs _ _).mono (fun _ r => r 0) (Cert.Moe.Value.plain_run m' g')⟩

theorem claim : Cert.Claim := ⟨Cert.Kernel.Gen.facts, Cert.KernelIdeal.Gen.facts, Cert.ReferenceIdeal.Gen.facts,
  fun m ρ _ => Cert.Moe.Kernel.quiescent m ρ, fun m ρ _ => Cert.Moe.KernelIdeal.quiescent m ρ, reference_quiescent, trivial, algebraic⟩

end Cert.Proof

end
